-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v30_3)) (v2 : (c : Dev Cert.KernelIdeal.nD) → Buf (Elt Ideal) ((c.tc : Thread Cert.KernelIdeal.nD Cert.KernelIdeal.τ).loc Cert.KernelIdeal.main_v30_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v30_3) = v1 c
          ∧ r.2.mem ((c.tc : Thread Cert.KernelIdeal.nD Cert.KernelIdeal.τ).loc Cert.KernelIdeal.main_v30_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S8x96x1x1 : Shape := ⟨4, ![8, 96, 1, 1]⟩
abbrev S8x96x128x128 : Shape := ⟨4, ![8, 96, 128, 128]⟩
abbrev S_ : Shape := ⟨0, ![]⟩
abbrev S8x128x128 : Shape := ⟨3, ![8, 128, 128]⟩
abbrev S8x1x1 : Shape := ⟨3, ![8, 1, 1]⟩
abbrev S8x1x128x128 : Shape := ⟨4, ![8, 1, 128, 128]⟩
abbrev S8x2x128x128 : Shape := ⟨4, ![8, 2, 128, 128]⟩
abbrev S8x2x16384 : Shape := ⟨3, ![8, 2, 16384]⟩
abbrev S8x1x16384 : Shape := ⟨3, ![8, 1, 16384]⟩
abbrev S8x16384 : Shape := ⟨2, ![8, 16384]⟩
abbrev S8x96x16384 : Shape := ⟨3, ![8, 96, 16384]⟩
abbrev S8 : Shape := ⟨1, ![8]⟩
abbrev S8x96 : Shape := ⟨2, ![8, 96]⟩
abbrev S8x1 : Shape := ⟨2, ![8, 1]⟩
abbrev S8x12 : Shape := ⟨2, ![8, 12]⟩
abbrev S8x1x12 : Shape := ⟨3, ![8, 1, 12]⟩
abbrev S8x12x1 : Shape := ⟨3, ![8, 12, 1]⟩
abbrev S1 : Shape := ⟨1, ![1]⟩
abbrev S1x1x1 : Shape := ⟨3, ![1, 1, 1]⟩
abbrev S8x96x12 : Shape := ⟨3, ![8, 96, 12]⟩

class Facts : Prop where
  bcast_S8x96x1x1_S8x96x128x128_0_1_2_3 : S8x96x1x1.BroadcastsInDim S8x96x128x128 (![0, 1, 2, 3] : Fin 4 → Fin S8x96x128x128.rank)
  reducesTo_S8x96x128x128_S8x128x128_d1 : S8x96x128x128.ReducesTo [1] S8x128x128
  h_S_ : 0 < S_.numel
  reducesTo_S8x96x1x1_S8x1x1_d1 : S8x96x1x1.ReducesTo [1] S8x1x1
  bcast_S_S8x128x128 : S_.BroadcastsInDim S8x128x128 (![] : Fin 0 → Fin S8x128x128.rank)
  bcast_S_S8x1x1 : S_.BroadcastsInDim S8x1x1 (![] : Fin 0 → Fin S8x1x1.rank)
  bcast_S8x1x1_S8x128x128_0_1_2 : S8x1x1.BroadcastsInDim S8x128x128 (![0, 1, 2] : Fin 3 → Fin S8x128x128.rank)
  bcast_S8x128x128_S8x1x128x128_0_2_3 : S8x128x128.BroadcastsInDim S8x1x128x128 (![0, 2, 3] : Fin 3 → Fin S8x1x128x128.rank)
  concatenates_S8x1x128x128_S8x1x128x128_S8x2x128x128_d1 : Shape.Concatenates [S8x1x128x128, S8x1x128x128] S8x2x128x128 1
  bcast_S_S8x2x128x128 : S_.BroadcastsInDim S8x2x128x128 (![] : Fin 0 → Fin S8x2x128x128.rank)
  reducesTo_S8x2x128x128_S8x128x128_d1 : S8x2x128x128.ReducesTo [1] S8x128x128
  bcast_S8x1x128x128_S8x2x128x128_0_1_2_3 : S8x1x128x128.BroadcastsInDim S8x2x128x128 (![0, 1, 2, 3] : Fin 4 → Fin S8x2x128x128.rank)
  shapeCasts_S8x2x128x128_S8x2x16384 : S8x2x128x128.ShapeCasts S8x2x16384
  slices_S8x2x16384_S8x1x16384_0_1_0 : S8x2x16384.Slices ![0, 1, 0] S8x1x16384
  shapeCasts_S8x1x16384_S8x16384 : S8x1x16384.ShapeCasts S8x16384
  slices_S8x2x16384_S8x1x16384_0_0_0 : S8x2x16384.Slices ![0, 0, 0] S8x1x16384
  shapeCasts_S8x96x128x128_S8x96x16384 : S8x96x128x128.ShapeCasts S8x96x16384
  bcast_S_S8x16384 : S_.BroadcastsInDim S8x16384 (![] : Fin 0 → Fin S8x16384.rank)
  reducesTo_S8x16384_S8_d1 : S8x16384.ReducesTo [1] S8
  bcast_S8x16384_S8x1x16384_0_2 : S8x16384.BroadcastsInDim S8x1x16384 (![0, 2] : Fin 2 → Fin S8x1x16384.rank)
  bcast_S8x1x16384_S8x96x16384_0_1_2 : S8x1x16384.BroadcastsInDim S8x96x16384 (![0, 1, 2] : Fin 3 → Fin S8x96x16384.rank)
  reducesTo_S8x96x16384_S8x96_d2 : S8x96x16384.ReducesTo [2] S8x96
  bcast_S_S8 : S_.BroadcastsInDim S8 (![] : Fin 0 → Fin S8.rank)
  bcast_S8_S8x1_0 : S8.BroadcastsInDim S8x1 (![0] : Fin 1 → Fin S8x1.rank)
  bcast_S8x1_S8x96_0_1 : S8x1.BroadcastsInDim S8x96 (![0, 1] : Fin 2 → Fin S8x96.rank)
  sliceFits_S8x16384_S8x12 : S8x16384.Slices (fun _ => 0) S8x12
  bcast_S8x12_S8x1x12_0_2 : S8x12.BroadcastsInDim S8x1x12 (![0, 2] : Fin 2 → Fin S8x1x12.rank)
  bcast_S_S8x1x12 : S_.BroadcastsInDim S8x1x12 (![] : Fin 0 → Fin S8x1x12.rank)
  shapeCasts_S8x1x12_S8x12x1 : S8x1x12.ShapeCasts S8x12x1
  bcast_S_S8x12x1 : S_.BroadcastsInDim S8x12x1 (![] : Fin 0 → Fin S8x12x1.rank)
  bcast_S1_S1x1x1_2 : S1.BroadcastsInDim S1x1x1 (![2] : Fin 1 → Fin S1x1x1.rank)
  bcast_S1x1x1_S8x12x1_0_1_2 : S1x1x1.BroadcastsInDim S8x12x1 (![0, 1, 2] : Fin 3 → Fin S8x12x1.rank)
  reducesTo_S8x12x1_S8x12_d2 : S8x12x1.ReducesTo [2] S8x12
  bcast_S8x12_S8x96x12_0_2 : S8x12.BroadcastsInDim S8x96x12 (![0, 2] : Fin 2 → Fin S8x96x12.rank)
  bcast_S_S8x96x12 : S_.BroadcastsInDim S8x96x12 (![] : Fin 0 → Fin S8x96x12.rank)
  reducesTo_S8x96x12_S8x96_d2 : S8x96x12.ReducesTo [2] S8x96
  bcast_S_S8x96 : S_.BroadcastsInDim S8x96 (![] : Fin 0 → Fin S8x96.rank)
  shapeCasts_S8x96_S8x96x1x1 : S8x96.ShapeCasts S8x96x1x1
  reducesTo_S8x1x128x128_S_d0_1_2_3 : S8x1x128x128.ReducesTo [0, 1, 2, 3] S_
  bcast_S_S8x96x128x128 : S_.BroadcastsInDim S8x96x128x128 (![] : Fin 0 → Fin S8x96x128x128.rank)
  gather_S8x96x16384_S8x12x1_S8x96x12_1_2_0_0_2_2_1961_wf : GatherDims.WF S8x96x16384 S8x12x1 S8x96x12 [1] [2] [0] [2] [0] 2 ![1, 96, 1]

variable [Facts]

def gather_S8x96x16384_S8x12x1_S8x96x12_1_2_0_0_2_2_1961 : GatherDims S8x96x16384 S8x12x1 S8x96x12 where
  offsetDims := [1]
  collapsedSliceDims := [2]
  operandBatchingDims := [0]
  startIndicesBatchingDims := [0]
  startIndexMap := [2]
  indexVectorDim := 2
  sliceSizes := ![1, 96, 1]
  wf := gather_S8x96x16384_S8x12x1_S8x96x12_1_2_0_0_2_2_1961_wf
def fn_take_along_axis {F : FTy → Type} [FloatOps F] (arg0 : FVec F S8x96x16384 .f32) (arg1 : IVec S8x1x12 32) : FVec F S8x96x12 .f32 :=
  let c : IVec S_ 32 := constantI S_ 32 0#32
  let v0 : IVec S8x1x12 32 := broadcastInDim S8x1x12 ![] bcast_S_S8x1x12 c
  let v1 : IVec S8x1x12 1 := cmpi .slt arg1 v0
  let c_0 : IVec S_ 32 := constantI S_ 32 16384#32
  let v2 : IVec S8x1x12 32 := broadcastInDim S8x1x12 ![] bcast_S_S8x1x12 c_0
  let v3 : IVec S8x1x12 32 := addi arg1 v2
  let v4 : IVec S8x1x12 32 := select v1 v3 arg1
  let v5 : IVec S8x12x1 32 := shapeCast S8x12x1 v4 shapeCasts_S8x1x12_S8x12x1
  let c_1 : IVec S1 32 := constantI S1 32 16383#32
  let c_2 : IVec S_ 32 := constantI S_ 32 0#32
  let v6 : IVec S8x12x1 32 := broadcastInDim S8x12x1 ![] bcast_S_S8x12x1 c_2
  let v7 : IVec S8x12x1 1 := cmpi .sge v5 v6
  let v8 : IVec S1x1x1 32 := broadcastInDim S1x1x1 ![2] bcast_S1_S1x1x1_2 c_1
  let v9 : IVec S8x12x1 32 := broadcastInDim S8x12x1 ![0, 1, 2] bcast_S1x1x1_S8x12x1_0_1_2 v8
  let v10 : IVec S8x12x1 1 := cmpi .sle v5 v9
  let v11 : IVec S8x12x1 1 := andi v7 v10
  let c_3 : IVec S_ 1 := constantI S_ 1 1#1
  let v12 : IVec S8x12 1 := (fun x v => Host.reduce IntOp.andi x v reducesTo_S8x12x1_S8x12_d2 h_S_) v11 c_3
  let v13 : FVec F S8x96x12 .f32 := (fun x i => Host.gather gather_S8x96x16384_S8x12x1_S8x96x12_1_2_0_0_2_2_1961 x i) arg0 v5
  let v14 : IVec S8x96x12 1 := broadcastInDim S8x96x12 ![0, 2] bcast_S8x12_S8x96x12_0_2 v12
  let cst : FVec F S_ .f32 := constant S_ .f32 0x7FC00000#32
  let v15 : FVec F S8x96x12 .f32 := broadcastInDim S8x96x12 ![] bcast_S_S8x96x12 cst
  let v16 : FVec F S8x96x12 .f32 := select v14 v13 v15
  v16

def fn_where {F : FTy → Type} [FloatOps F] (arg0 : IVec S8x1 1) (arg1 : FVec F S8x96 .f32) (arg2 : FVec F S8x96 .f32) : FVec F S8x96 .f32 :=
  let v0 : IVec S8x96 1 := broadcastInDim S8x96 ![0, 1] bcast_S8x1_S8x96_0_1 arg0
  let v1 : FVec F S8x96 .f32 := select v0 arg1 arg2
  v1

def fn_part8 {F : FTy → Type} [FloatOps F] (main_arg2 : FVec F S8x96x128x128 .f32) (main_v50 : FVec F S8x16384 .f32) (main_v56 : FVec F S_ .f32) (main_v141 : IVec S_ 1) (main_v144 : IVec S_ 1) : IVec S8x96x128x128 1 × IVec S8x16384 1 × IVec S_ 1 :=
  let main_v145 : IVec S_ 1 := ori main_v141 main_v144
  let main_v146 : FVec F S8x96x128x128 .f32 := Host.absf main_arg2
  let main_cst_44 : FVec F S_ .f32 := constant S_ .f32 0x7F800000#32
  let main_v147 : FVec F S8x96x128x128 .f32 := broadcastInDim S8x96x128x128 ![] bcast_S_S8x96x128x128 main_cst_44
  let main_v148 : IVec S8x96x128x128 1 := cmpf .olt main_v146 main_v147
  let main_v149 : FVec F S8x16384 .f32 := broadcastInDim S8x16384 ![] bcast_S_S8x16384 main_v56
  let main_v150 : IVec S8x16384 1 := cmpf .une main_v50 main_v149
  (main_v148, main_v150, main_v145)

def fn_part7 {F : FTy → Type} [FloatOps F] (main_arg2 : FVec F S8x96x128x128 .f32) (main_v50 : FVec F S8x16384 .f32) (main_v56 : FVec F S_ .f32) (main_v104 : FVec F S8x96x1x1 .f32) (main_v121 : FVec F S8x1x128x128 .f32) (main_v124 : FVec F S8x128x128 .f32) (main_v127 : FVec F S8x128x128 .f32) : IVec S8x96x128x128 1 × IVec S8x16384 1 × IVec S_ 1 :=
  let main_v128 : FVec F S8x96x1x1 .f32 := mulf main_v104 main_v104
  let main_cst_37 : FVec F S_ .f32 := constant S_ .f32 0x00000000#32
  let main_v129 : FVec F S8x1x1 .f32 := (fun x v => Host.reduceAdd x v reducesTo_S8x96x1x1_S8x1x1_d1 h_S_) main_v128 main_cst_37
  let main_v130 : FVec F S8x1x1 .f32 := Host.sqrt main_v129
  let main_cst_38 : FVec F S_ .f32 := constant S_ .f32 0x322BCC77#32
  let main_v131 : FVec F S8x128x128 .f32 := broadcastInDim S8x128x128 ![] bcast_S_S8x128x128 main_cst_38
  let main_v132 : FVec F S8x128x128 .f32 := maximumf main_v127 main_v131
  let main_cst_39 : FVec F S_ .f32 := constant S_ .f32 0x322BCC77#32
  let main_v133 : FVec F S8x1x1 .f32 := broadcastInDim S8x1x1 ![] bcast_S_S8x1x1 main_cst_39
  let main_v134 : FVec F S8x1x1 .f32 := maximumf main_v130 main_v133
  let main_v135 : FVec F S8x128x128 .f32 := broadcastInDim S8x128x128 ![0, 1, 2] bcast_S8x1x1_S8x128x128_0_1_2 main_v134
  let main_v136 : FVec F S8x128x128 .f32 := mulf main_v132 main_v135
  let main_v137 : FVec F S8x128x128 .f32 := Host.divf main_v124 main_v136
  let main_v138 : FVec F S8x1x128x128 .f32 := broadcastInDim S8x1x128x128 ![0, 2, 3] bcast_S8x128x128_S8x1x128x128_0_2_3 main_v137
  let main_cst_40 : FVec F S_ .f32 := constant S_ .f32 0xFF800000#32
  let main_v139 : FVec F S_ .f32 := (fun x v => Host.reduce FloatOps.maximumf x v reducesTo_S8x1x128x128_S_d0_1_2_3 h_S_) main_v121 main_cst_40
  let main_cst_41 : FVec F S_ .f32 := constant S_ .f32 0x7F800000#32
  let main_v140 : FVec F S_ .f32 := (fun x v => Host.reduce FloatOps.minimumf x v reducesTo_S8x1x128x128_S_d0_1_2_3 h_S_) main_v121 main_cst_41
  let main_v141 : IVec S_ 1 := cmpf .ogt main_v139 main_v140
  let main_cst_42 : FVec F S_ .f32 := constant S_ .f32 0xFF800000#32
  let main_v142 : FVec F S_ .f32 := (fun x v => Host.reduce FloatOps.maximumf x v reducesTo_S8x1x128x128_S_d0_1_2_3 h_S_) main_v138 main_cst_42
  let main_cst_43 : FVec F S_ .f32 := constant S_ .f32 0x7F800000#32
  let main_v143 : FVec F S_ .f32 := (fun x v => Host.reduce FloatOps.minimumf x v reducesTo_S8x1x128x128_S_d0_1_2_3 h_S_) main_v138 main_cst_43
  let main_v144 : IVec S_ 1 := cmpf .ogt main_v142 main_v143
  fn_part8 (F := F) main_arg2 main_v50 main_v56 main_v141 main_v144

def fn_part6 {F : FTy → Type} [FloatOps F] (main_arg2 : FVec F S8x96x128x128 .f32) (main_v50 : FVec F S8x16384 .f32) (main_v56 : FVec F S_ .f32) (main_v81 : FVec F S8x96x1x1 .f32) (main_v104 : FVec F S8x96x1x1 .f32) (main_v107 : FVec F S8x128x128 .f32) (main_v108 : FVec F S8x96x128x128 .f32) (main_cst_31 : FVec F S_ .f32) : IVec S8x96x128x128 1 × IVec S8x16384 1 × IVec S_ 1 :=
  let main_v109 : FVec F S8x128x128 .f32 := (fun x v => Host.reduceAdd x v reducesTo_S8x96x128x128_S8x128x128_d1 h_S_) main_v108 main_cst_31
  let main_v110 : FVec F S8x128x128 .f32 := Host.sqrt main_v109
  let main_v111 : FVec F S8x96x1x1 .f32 := mulf main_v81 main_v81
  let main_cst_32 : FVec F S_ .f32 := constant S_ .f32 0x00000000#32
  let main_v112 : FVec F S8x1x1 .f32 := (fun x v => Host.reduceAdd x v reducesTo_S8x96x1x1_S8x1x1_d1 h_S_) main_v111 main_cst_32
  let main_v113 : FVec F S8x1x1 .f32 := Host.sqrt main_v112
  let main_cst_33 : FVec F S_ .f32 := constant S_ .f32 0x322BCC77#32
  let main_v114 : FVec F S8x128x128 .f32 := broadcastInDim S8x128x128 ![] bcast_S_S8x128x128 main_cst_33
  let main_v115 : FVec F S8x128x128 .f32 := maximumf main_v110 main_v114
  let main_cst_34 : FVec F S_ .f32 := constant S_ .f32 0x322BCC77#32
  let main_v116 : FVec F S8x1x1 .f32 := broadcastInDim S8x1x1 ![] bcast_S_S8x1x1 main_cst_34
  let main_v117 : FVec F S8x1x1 .f32 := maximumf main_v113 main_v116
  let main_v118 : FVec F S8x128x128 .f32 := broadcastInDim S8x128x128 ![0, 1, 2] bcast_S8x1x1_S8x128x128_0_1_2 main_v117
  let main_v119 : FVec F S8x128x128 .f32 := mulf main_v115 main_v118
  let main_v120 : FVec F S8x128x128 .f32 := Host.divf main_v107 main_v119
  let main_v121 : FVec F S8x1x128x128 .f32 := broadcastInDim S8x1x128x128 ![0, 2, 3] bcast_S8x128x128_S8x1x128x128_0_2_3 main_v120
  let main_v122 : FVec F S8x96x128x128 .f32 := broadcastInDim S8x96x128x128 ![0, 1, 2, 3] bcast_S8x96x1x1_S8x96x128x128_0_1_2_3 main_v104
  let main_v123 : FVec F S8x96x128x128 .f32 := mulf main_arg2 main_v122
  let main_cst_35 : FVec F S_ .f32 := constant S_ .f32 0x00000000#32
  let main_v124 : FVec F S8x128x128 .f32 := (fun x v => Host.reduceAdd x v reducesTo_S8x96x128x128_S8x128x128_d1 h_S_) main_v123 main_cst_35
  let main_v125 : FVec F S8x96x128x128 .f32 := mulf main_arg2 main_arg2
  let main_cst_36 : FVec F S_ .f32 := constant S_ .f32 0x00000000#32
  let main_v126 : FVec F S8x128x128 .f32 := (fun x v => Host.reduceAdd x v reducesTo_S8x96x128x128_S8x128x128_d1 h_S_) main_v125 main_cst_36
  let main_v127 : FVec F S8x128x128 .f32 := Host.sqrt main_v126
  fn_part7 (F := F) main_arg2 main_v50 main_v56 main_v104 main_v121 main_v124 main_v127

def fn_part5 {F : FTy → Type} [FloatOps F] (main_arg2 : FVec F S8x96x128x128 .f32) (main_v50 : FVec F S8x16384 .f32) (main_v52 : FVec F S8x16384 .f32) (main_v56 : FVec F S_ .f32) (main_v58 : FVec F S8x96x16384 .f32) (main_v81 : FVec F S8x96x1x1 .f32) (main_v85 : FVec F S8 .f32) (main_v89 : FVec F S8x96 .f32) (main_v91 : FVec F S8 .f32) : IVec S8x96x128x128 1 × IVec S8x16384 1 × IVec S_ 1 :=
  let main_v92 : FVec F S8x1 .f32 := broadcastInDim S8x1 ![0] bcast_S8_S8x1_0 main_v91
  let main_v93 : FVec F S8x96 .f32 := broadcastInDim S8x96 ![0, 1] bcast_S8x1_S8x96_0_1 main_v92
  let main_v94 : FVec F S8x96 .f32 := Host.divf main_v89 main_v93
  let main_values_25 : FVec F S8x12 .f32 := (fun x => (Host.topK S8x12 1 (FloatOps.cmpfTotal .gt) x sliceFits_S8x16384_S8x12).1) main_v52
  let main_indices_26 : IVec S8x12 32 := (fun x => (Host.topK S8x12 1 (FloatOps.cmpfTotal .gt) x sliceFits_S8x16384_S8x12).2) main_v52
  let main_v95 : IVec S8x1x12 32 := broadcastInDim S8x1x12 ![0, 2] bcast_S8x12_S8x1x12_0_2 main_indices_26
  let main_v96 : FVec F S8x96x12 .f32 := fn_take_along_axis (F := F) main_v58 main_v95
  let main_cst_27 : FVec F S_ .f32 := constant S_ .f32 0x00000000#32
  let main_v97 : FVec F S8x96 .f32 := (fun x v => Host.reduceAdd x v reducesTo_S8x96x12_S8x96_d2 h_S_) main_v96 main_cst_27
  let main_cst_28 : FVec F S_ .f32 := constant S_ .f32 0x41400000#32
  let main_v98 : FVec F S8x96 .f32 := broadcastInDim S8x96 ![] bcast_S_S8x96 main_cst_28
  let main_v99 : FVec F S8x96 .f32 := Host.divf main_v97 main_v98
  let main_cst_29 : FVec F S_ .f32 := constant S_ .f32 0x00000000#32
  let main_v100 : FVec F S8 .f32 := broadcastInDim S8 ![] bcast_S_S8 main_cst_29
  let main_v101 : IVec S8 1 := cmpf .ogt main_v85 main_v100
  let main_v102 : IVec S8x1 1 := broadcastInDim S8x1 ![0] bcast_S8_S8x1_0 main_v101
  let main_v103 : FVec F S8x96 .f32 := fn_where (F := F) main_v102 main_v94 main_v99
  let main_v104 : FVec F S8x96x1x1 .f32 := shapeCast S8x96x1x1 main_v103 shapeCasts_S8x96_S8x96x1x1
  let main_v105 : FVec F S8x96x128x128 .f32 := broadcastInDim S8x96x128x128 ![0, 1, 2, 3] bcast_S8x96x1x1_S8x96x128x128_0_1_2_3 main_v81
  let main_v106 : FVec F S8x96x128x128 .f32 := mulf main_arg2 main_v105
  let main_cst_30 : FVec F S_ .f32 := constant S_ .f32 0x00000000#32
  let main_v107 : FVec F S8x128x128 .f32 := (fun x v => Host.reduceAdd x v reducesTo_S8x96x128x128_S8x128x128_d1 h_S_) main_v106 main_cst_30
  let main_v108 : FVec F S8x96x128x128 .f32 := mulf main_arg2 main_arg2
  let main_cst_31 : FVec F S_ .f32 := constant S_ .f32 0x00000000#32
  fn_part6 (F := F) main_arg2 main_v50 main_v56 main_v81 main_v104 main_v107 main_v108 main_cst_31

def fn_part4 {F : FTy → Type} [FloatOps F] (main_arg2 : FVec F S8x96x128x128 .f32) (main_v50 : FVec F S8x16384 .f32) (main_v52 : FVec F S8x16384 .f32) (main_v56 : FVec F S_ .f32) (main_v57 : FVec F S_ .f32) (main_v58 : FVec F S8x96x16384 .f32) (main_v62 : FVec F S8 .f32) (main_v71 : FVec F S8x96 .f32) (main_v73 : FVec F S8x96x12 .f32) : IVec S8x96x128x128 1 × IVec S8x16384 1 × IVec S_ 1 :=
  let main_cst_19 : FVec F S_ .f32 := constant S_ .f32 0x00000000#32
  let main_v74 : FVec F S8x96 .f32 := (fun x v => Host.reduceAdd x v reducesTo_S8x96x12_S8x96_d2 h_S_) main_v73 main_cst_19
  let main_cst_20 : FVec F S_ .f32 := constant S_ .f32 0x41400000#32
  let main_v75 : FVec F S8x96 .f32 := broadcastInDim S8x96 ![] bcast_S_S8x96 main_cst_20
  let main_v76 : FVec F S8x96 .f32 := Host.divf main_v74 main_v75
  let main_cst_21 : FVec F S_ .f32 := constant S_ .f32 0x00000000#32
  let main_v77 : FVec F S8 .f32 := broadcastInDim S8 ![] bcast_S_S8 main_cst_21
  let main_v78 : IVec S8 1 := cmpf .ogt main_v62 main_v77
  let main_v79 : IVec S8x1 1 := broadcastInDim S8x1 ![0] bcast_S8_S8x1_0 main_v78
  let main_v80 : FVec F S8x96 .f32 := fn_where (F := F) main_v79 main_v71 main_v76
  let main_v81 : FVec F S8x96x1x1 .f32 := shapeCast S8x96x1x1 main_v80 shapeCasts_S8x96_S8x96x1x1
  let main_v82 : FVec F S8x16384 .f32 := broadcastInDim S8x16384 ![] bcast_S_S8x16384 main_v57
  let main_v83 : IVec S8x16384 1 := cmpf .ogt main_v52 main_v82
  let main_v84 : FVec F S8x16384 .f32 := uitofp .f32 main_v83
  let main_cst_22 : FVec F S_ .f32 := constant S_ .f32 0x00000000#32
  let main_v85 : FVec F S8 .f32 := (fun x v => Host.reduceAdd x v reducesTo_S8x16384_S8_d1 h_S_) main_v84 main_cst_22
  let main_v86 : FVec F S8x1x16384 .f32 := broadcastInDim S8x1x16384 ![0, 2] bcast_S8x16384_S8x1x16384_0_2 main_v84
  let main_v87 : FVec F S8x96x16384 .f32 := broadcastInDim S8x96x16384 ![0, 1, 2] bcast_S8x1x16384_S8x96x16384_0_1_2 main_v86
  let main_v88 : FVec F S8x96x16384 .f32 := mulf main_v58 main_v87
  let main_cst_23 : FVec F S_ .f32 := constant S_ .f32 0x00000000#32
  let main_v89 : FVec F S8x96 .f32 := (fun x v => Host.reduceAdd x v reducesTo_S8x96x16384_S8x96_d2 h_S_) main_v88 main_cst_23
  let main_cst_24 : FVec F S_ .f32 := constant S_ .f32 0x3F800000#32
  let main_v90 : FVec F S8 .f32 := broadcastInDim S8 ![] bcast_S_S8 main_cst_24
  let main_v91 : FVec F S8 .f32 := maximumf main_v85 main_v90
  fn_part5 (F := F) main_arg2 main_v50 main_v52 main_v56 main_v58 main_v81 main_v85 main_v89 main_v91

def fn_part3 {F : FTy → Type} [FloatOps F] (main_arg2 : FVec F S8x96x128x128 .f32) (main_v50 : FVec F S8x16384 .f32) (main_v52 : FVec F S8x16384 .f32) (main_v55 : FVec F S_ .f32) (main_cst_14 : FVec F S_ .f32) : IVec S8x96x128x128 1 × IVec S8x16384 1 × IVec S_ 1 :=
  let main_v56 : FVec F S_ .f32 := Host.divf main_cst_14 main_v55
  let main_cst_15 : FVec F S_ .f32 := constant S_ .f32 0x3F800000#32
  let main_v57 : FVec F S_ .f32 := subf main_cst_15 main_v56
  let main_v58 : FVec F S8x96x16384 .f32 := shapeCast S8x96x16384 main_arg2 shapeCasts_S8x96x128x128_S8x96x16384
  let main_v59 : FVec F S8x16384 .f32 := broadcastInDim S8x16384 ![] bcast_S_S8x16384 main_v56
  let main_v60 : IVec S8x16384 1 := cmpf .ogt main_v50 main_v59
  let main_v61 : FVec F S8x16384 .f32 := uitofp .f32 main_v60
  let main_cst_16 : FVec F S_ .f32 := constant S_ .f32 0x00000000#32
  let main_v62 : FVec F S8 .f32 := (fun x v => Host.reduceAdd x v reducesTo_S8x16384_S8_d1 h_S_) main_v61 main_cst_16
  let main_v63 : FVec F S8x1x16384 .f32 := broadcastInDim S8x1x16384 ![0, 2] bcast_S8x16384_S8x1x16384_0_2 main_v61
  let main_v64 : FVec F S8x96x16384 .f32 := broadcastInDim S8x96x16384 ![0, 1, 2] bcast_S8x1x16384_S8x96x16384_0_1_2 main_v63
  let main_v65 : FVec F S8x96x16384 .f32 := mulf main_v58 main_v64
  let main_cst_17 : FVec F S_ .f32 := constant S_ .f32 0x00000000#32
  let main_v66 : FVec F S8x96 .f32 := (fun x v => Host.reduceAdd x v reducesTo_S8x96x16384_S8x96_d2 h_S_) main_v65 main_cst_17
  let main_cst_18 : FVec F S_ .f32 := constant S_ .f32 0x3F800000#32
  let main_v67 : FVec F S8 .f32 := broadcastInDim S8 ![] bcast_S_S8 main_cst_18
  let main_v68 : FVec F S8 .f32 := maximumf main_v62 main_v67
  let main_v69 : FVec F S8x1 .f32 := broadcastInDim S8x1 ![0] bcast_S8_S8x1_0 main_v68
  let main_v70 : FVec F S8x96 .f32 := broadcastInDim S8x96 ![0, 1] bcast_S8x1_S8x96_0_1 main_v69
  let main_v71 : FVec F S8x96 .f32 := Host.divf main_v66 main_v70
  let main_values : FVec F S8x12 .f32 := (fun x => (Host.topK S8x12 1 (FloatOps.cmpfTotal .gt) x sliceFits_S8x16384_S8x12).1) main_v50
  let main_indices : IVec S8x12 32 := (fun x => (Host.topK S8x12 1 (FloatOps.cmpfTotal .gt) x sliceFits_S8x16384_S8x12).2) main_v50
  let main_v72 : IVec S8x1x12 32 := broadcastInDim S8x1x12 ![0, 2] bcast_S8x12_S8x1x12_0_2 main_indices
  let main_v73 : FVec F S8x96x12 .f32 := fn_take_along_axis (F := F) main_v58 main_v72
  fn_part4 (F := F) main_arg2 main_v50 main_v52 main_v56 main_v57 main_v58 main_v62 main_v71 main_v73

def fn_part2 {F : FTy → Type} [FloatOps F] (main_arg2 : FVec F S8x96x128x128 .f32) (main_arg3 : FVec F S_ .f32) (main_v36 : FVec F S8x2x128x128 .f32) : IVec S8x96x128x128 1 × IVec S8x16384 1 × IVec S_ 1 :=
  let main_cst_10 : FVec F S_ .f32 := constant S_ .f32 0xFF800000#32
  let main_v37 : FVec F S8x128x128 .f32 := (fun x v => Host.reduce FloatOps.maximumf x v reducesTo_S8x2x128x128_S8x128x128_d1 h_S_) main_v36 main_cst_10
  let main_cst_11 : FVec F S_ .f32 := constant S_ .f32 0xFF800000#32
  let main_v38 : FVec F S8x128x128 .f32 := broadcastInDim S8x128x128 ![] bcast_S_S8x128x128 main_cst_11
  let main_v39 : FVec F S8x128x128 .f32 := maximumf main_v38 main_v37
  let main_v40 : FVec F S8x1x128x128 .f32 := broadcastInDim S8x1x128x128 ![0, 2, 3] bcast_S8x128x128_S8x1x128x128_0_2_3 main_v39
  let main_v41 : FVec F S8x2x128x128 .f32 := broadcastInDim S8x2x128x128 ![0, 1, 2, 3] bcast_S8x1x128x128_S8x2x128x128_0_1_2_3 main_v40
  let main_v42 : FVec F S8x2x128x128 .f32 := subf main_v36 main_v41
  let main_v43 : FVec F S8x2x128x128 .f32 := Host.exp main_v42
  let main_cst_12 : FVec F S_ .f32 := constant S_ .f32 0x00000000#32
  let main_v44 : FVec F S8x128x128 .f32 := (fun x v => Host.reduceAdd x v reducesTo_S8x2x128x128_S8x128x128_d1 h_S_) main_v43 main_cst_12
  let main_v45 : FVec F S8x1x128x128 .f32 := broadcastInDim S8x1x128x128 ![0, 2, 3] bcast_S8x128x128_S8x1x128x128_0_2_3 main_v44
  let main_v46 : FVec F S8x2x128x128 .f32 := broadcastInDim S8x2x128x128 ![0, 1, 2, 3] bcast_S8x1x128x128_S8x2x128x128_0_1_2_3 main_v45
  let main_v47 : FVec F S8x2x128x128 .f32 := Host.divf main_v43 main_v46
  let main_v48 : FVec F S8x2x16384 .f32 := shapeCast S8x2x16384 main_v47 shapeCasts_S8x2x128x128_S8x2x16384
  let main_v49 : FVec F S8x1x16384 .f32 := (extractStridedSlice S8x1x16384 ![0, 1, 0] · slices_S8x2x16384_S8x1x16384_0_1_0) main_v48
  let main_v50 : FVec F S8x16384 .f32 := shapeCast S8x16384 main_v49 shapeCasts_S8x1x16384_S8x16384
  let main_v51 : FVec F S8x1x16384 .f32 := (extractStridedSlice S8x1x16384 ![0, 0, 0] · slices_S8x2x16384_S8x1x16384_0_0_0) main_v48
  let main_v52 : FVec F S8x16384 .f32 := shapeCast S8x16384 main_v51 shapeCasts_S8x1x16384_S8x16384
  let main_v53 : FVec F S_ .f32 := Host.negf main_arg3
  let main_v54 : FVec F S_ .f32 := Host.exp main_v53
  let main_cst_13 : FVec F S_ .f32 := constant S_ .f32 0x3F800000#32
  let main_v55 : FVec F S_ .f32 := addf main_cst_13 main_v54
  let main_cst_14 : FVec F S_ .f32 := constant S_ .f32 0x3F800000#32
  fn_part3 (F := F) main_arg2 main_v50 main_v52 main_v55 main_cst_14

def fn_part1 {F : FTy → Type} [FloatOps F] (main_arg1 : FVec F S8x96x1x1 .f32) (main_arg2 : FVec F S8x96x128x128 .f32) (main_arg3 : FVec F S_ .f32) (main_v15 : FVec F S8x128x128 .f32) (main_v17 : FVec F S8x96x128x128 .f32) (main_cst_4 : FVec F S_ .f32) : IVec S8x96x128x128 1 × IVec S8x16384 1 × IVec S_ 1 :=
  let main_v18 : FVec F S8x128x128 .f32 := (fun x v => Host.reduceAdd x v reducesTo_S8x96x128x128_S8x128x128_d1 h_S_) main_v17 main_cst_4
  let main_v19 : FVec F S8x96x128x128 .f32 := mulf main_arg2 main_arg2
  let main_cst_5 : FVec F S_ .f32 := constant S_ .f32 0x00000000#32
  let main_v20 : FVec F S8x128x128 .f32 := (fun x v => Host.reduceAdd x v reducesTo_S8x96x128x128_S8x128x128_d1 h_S_) main_v19 main_cst_5
  let main_v21 : FVec F S8x128x128 .f32 := Host.sqrt main_v20
  let main_v22 : FVec F S8x96x1x1 .f32 := mulf main_arg1 main_arg1
  let main_cst_6 : FVec F S_ .f32 := constant S_ .f32 0x00000000#32
  let main_v23 : FVec F S8x1x1 .f32 := (fun x v => Host.reduceAdd x v reducesTo_S8x96x1x1_S8x1x1_d1 h_S_) main_v22 main_cst_6
  let main_v24 : FVec F S8x1x1 .f32 := Host.sqrt main_v23
  let main_cst_7 : FVec F S_ .f32 := constant S_ .f32 0x322BCC77#32
  let main_v25 : FVec F S8x128x128 .f32 := broadcastInDim S8x128x128 ![] bcast_S_S8x128x128 main_cst_7
  let main_v26 : FVec F S8x128x128 .f32 := maximumf main_v21 main_v25
  let main_cst_8 : FVec F S_ .f32 := constant S_ .f32 0x322BCC77#32
  let main_v27 : FVec F S8x1x1 .f32 := broadcastInDim S8x1x1 ![] bcast_S_S8x1x1 main_cst_8
  let main_v28 : FVec F S8x1x1 .f32 := maximumf main_v24 main_v27
  let main_v29 : FVec F S8x128x128 .f32 := broadcastInDim S8x128x128 ![0, 1, 2] bcast_S8x1x1_S8x128x128_0_1_2 main_v28
  let main_v30 : FVec F S8x128x128 .f32 := mulf main_v26 main_v29
  let main_v31 : FVec F S8x128x128 .f32 := Host.divf main_v18 main_v30
  let main_v32 : FVec F S8x1x128x128 .f32 := broadcastInDim S8x1x128x128 ![0, 2, 3] bcast_S8x128x128_S8x1x128x128_0_2_3 main_v31
  let main_v33 : FVec F S8x1x128x128 .f32 := broadcastInDim S8x1x128x128 ![0, 2, 3] bcast_S8x128x128_S8x1x128x128_0_2_3 main_v15
  let main_v34 : FVec F S8x2x128x128 .f32 := (fun a b => concatenate S8x2x128x128 1 [⟨S8x1x128x128, a⟩, ⟨S8x1x128x128, b⟩] concatenates_S8x1x128x128_S8x1x128x128_S8x2x128x128_d1) main_v32 main_v33
  let main_cst_9 : FVec F S_ .f32 := constant S_ .f32 0x41200000#32
  let main_v35 : FVec F S8x2x128x128 .f32 := broadcastInDim S8x2x128x128 ![] bcast_S_S8x2x128x128 main_cst_9
  let main_v36 : FVec F S8x2x128x128 .f32 := mulf main_v34 main_v35
  fn_part2 (F := F) main_arg2 main_arg3 main_v36

def fn {F : FTy → Type} [FloatOps F] (main_arg0 : FVec F S8x96x1x1 .f32) (main_arg1 : FVec F S8x96x1x1 .f32) (main_arg2 : FVec F S8x96x128x128 .f32) (main_arg3 : FVec F S_ .f32) : IVec S8x96x128x128 1 × IVec S8x16384 1 × IVec S_ 1 :=
  let main_v0 : FVec F S8x96x128x128 .f32 := broadcastInDim S8x96x128x128 ![0, 1, 2, 3] bcast_S8x96x1x1_S8x96x128x128_0_1_2_3 main_arg0
  let main_v1 : FVec F S8x96x128x128 .f32 := mulf main_arg2 main_v0
  let main_cst : FVec F S_ .f32 := constant S_ .f32 0x00000000#32
  let main_v2 : FVec F S8x128x128 .f32 := (fun x v => Host.reduceAdd x v reducesTo_S8x96x128x128_S8x128x128_d1 h_S_) main_v1 main_cst
  let main_v3 : FVec F S8x96x128x128 .f32 := mulf main_arg2 main_arg2
  let main_cst_0 : FVec F S_ .f32 := constant S_ .f32 0x00000000#32
  let main_v4 : FVec F S8x128x128 .f32 := (fun x v => Host.reduceAdd x v reducesTo_S8x96x128x128_S8x128x128_d1 h_S_) main_v3 main_cst_0
  let main_v5 : FVec F S8x128x128 .f32 := Host.sqrt main_v4
  let main_v6 : FVec F S8x96x1x1 .f32 := mulf main_arg0 main_arg0
  let main_cst_1 : FVec F S_ .f32 := constant S_ .f32 0x00000000#32
  let main_v7 : FVec F S8x1x1 .f32 := (fun x v => Host.reduceAdd x v reducesTo_S8x96x1x1_S8x1x1_d1 h_S_) main_v6 main_cst_1
  let main_v8 : FVec F S8x1x1 .f32 := Host.sqrt main_v7
  let main_cst_2 : FVec F S_ .f32 := constant S_ .f32 0x322BCC77#32
  let main_v9 : FVec F S8x128x128 .f32 := broadcastInDim S8x128x128 ![] bcast_S_S8x128x128 main_cst_2
  let main_v10 : FVec F S8x128x128 .f32 := maximumf main_v5 main_v9
  let main_cst_3 : FVec F S_ .f32 := constant S_ .f32 0x322BCC77#32
  let main_v11 : FVec F S8x1x1 .f32 := broadcastInDim S8x1x1 ![] bcast_S_S8x1x1 main_cst_3
  let main_v12 : FVec F S8x1x1 .f32 := maximumf main_v8 main_v11
  let main_v13 : FVec F S8x128x128 .f32 := broadcastInDim S8x128x128 ![0, 1, 2] bcast_S8x1x1_S8x128x128_0_1_2 main_v12
  let main_v14 : FVec F S8x128x128 .f32 := mulf main_v10 main_v13
  let main_v15 : FVec F S8x128x128 .f32 := Host.divf main_v2 main_v14
  let main_v16 : FVec F S8x96x128x128 .f32 := broadcastInDim S8x96x128x128 ![0, 1, 2, 3] bcast_S8x96x1x1_S8x96x128x128_0_1_2_3 main_arg1
  let main_v17 : FVec F S8x96x128x128 .f32 := mulf main_arg2 main_v16
  let main_cst_4 : FVec F S_ .f32 := constant S_ .f32 0x00000000#32
  fn_part1 (F := F) main_arg1 main_arg2 main_arg3 main_v15 main_v17 main_cst_4
-- ==== Kernel.lean ====
abbrev S8x96x1x1 : Shape := ⟨4, ![8, 96, 1, 1]⟩
abbrev S8x96x128x128 : Shape := ⟨4, ![8, 96, 128, 128]⟩
abbrev S_ : Shape := ⟨0, ![]⟩
abbrev S1 : Shape := ⟨1, ![1]⟩
abbrev S2 : Shape := ⟨1, ![2]⟩
abbrev S8x96 : Shape := ⟨2, ![8, 96]⟩
abbrev S8 : Shape := ⟨1, ![8]⟩
abbrev S8x1 : Shape := ⟨2, ![8, 1]⟩
abbrev S8x128x128 : Shape := ⟨3, ![8, 128, 128]⟩
abbrev S1x8 : Shape := ⟨2, ![1, 8]⟩
abbrev S1x96x1x1 : Shape := ⟨4, ![1, 96, 1, 1]⟩
abbrev S1x96x128x128 : Shape := ⟨4, ![1, 96, 128, 128]⟩
abbrev S1x128x128 : Shape := ⟨3, ![1, 128, 128]⟩
abbrev S8x128 : Shape := ⟨2, ![8, 128]⟩
abbrev S96x128x128 : Shape := ⟨3, ![96, 128, 128]⟩
abbrev S96x1x1 : Shape := ⟨3, ![96, 1, 1]⟩
abbrev S128x128 : Shape := ⟨2, ![128, 128]⟩
abbrev S96x8x128 : Shape := ⟨3, ![96, 8, 128]⟩
abbrev S96x8 : Shape := ⟨2, ![96, 8]⟩
abbrev S96x8x1 : Shape := ⟨3, ![96, 8, 1]⟩
abbrev S96x1 : Shape := ⟨2, ![96, 1]⟩
abbrev S1x8x128 : Shape := ⟨3, ![1, 8, 128]⟩
abbrev S1x1x1 : Shape := ⟨3, ![1, 1, 1]⟩
abbrev S96x128 : Shape := ⟨2, ![96, 128]⟩
abbrev S96x128x1 : Shape := ⟨3, ![96, 128, 1]⟩
abbrev S1x1x96x1x1 : Shape := ⟨5, ![1, 1, 96, 1, 1]⟩
abbrev S1x1x1x1x1 : Shape := ⟨5, ![1, 1, 1, 1, 1]⟩

abbrev nBuf : Space → Nat
  | .hbm => 49
  | .vmem => 25
  | .smem => 2
  | _ => 0

abbrev bufTy : (tb : Table) → Fin (tcTables nBuf tb) → BufTy
  | .hbm, ⟨0, _⟩ => ⟨S8x96x1x1, .f32⟩
  | .hbm, ⟨1, _⟩ => ⟨S8x96x1x1, .f32⟩
  | .hbm, ⟨2, _⟩ => ⟨S8x96x128x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S2, .f32⟩
  | .hbm, ⟨15, _⟩ => ⟨S8x96, .f32⟩
  | .hbm, ⟨16, _⟩ => ⟨S8x96, .f32⟩
  | .hbm, ⟨17, _⟩ => ⟨S8x96, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x1, .f32⟩
  | .hbm, ⟨25, _⟩ => ⟨S8x96, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8x1, .f32⟩
  | .hbm, ⟨33, _⟩ => ⟨S8x96, .f32⟩
  | .hbm, ⟨34, _⟩ => ⟨S8x96, .f32⟩
  | .hbm, ⟨35, _⟩ => ⟨S8x96, .f32⟩
  | .hbm, ⟨36, _⟩ => ⟨S8x96, .f32⟩
  | .hbm, ⟨37, _⟩ => ⟨S8x96, .f32⟩
  | .hbm, ⟨38, _⟩ => ⟨S_, .f32⟩
  | .hbm, ⟨39, _⟩ => ⟨S8x96, .f32⟩
  | .hbm, ⟨40, _⟩ => ⟨S8x96, .f32⟩
  | .hbm, ⟨41, _⟩ => ⟨S8x96x1x1, .f32⟩
  | .hbm, ⟨42, _⟩ => ⟨S8x128x128, .f32⟩
  | .hbm, ⟨43, _⟩ => ⟨S8x128x128, .f32⟩
  | .hbm, ⟨44, _⟩ => ⟨S1x8, .f32⟩
  | .hbm, ⟨45, _⟩ => ⟨S8x96x1x1, .f32⟩
  | .hbm, ⟨46, _⟩ => ⟨S8x96x1x1, .f32⟩
  | .hbm, ⟨47, _⟩ => ⟨S8, .f32⟩
  | .hbm, ⟨48, _⟩ => ⟨S8x96x128x128, .f32⟩
  | .local _ .vmem, ⟨0, _⟩ => ⟨S1x96x1x1, .f32⟩
  | .local _ .vmem, ⟨1, _⟩ => ⟨S1x96x1x1, .f32⟩
  | .local _ .vmem, ⟨2, _⟩ => ⟨S1x96x128x128, .f32⟩
  | .local _ .vmem, ⟨3, _⟩ => ⟨S1x96x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x8, .f32⟩
  | .local _ .vmem, ⟨9, _⟩ => ⟨S1x96x1x1, .f32⟩
  | .local _ .vmem, ⟨10, _⟩ => ⟨S1x96x1x1, .f32⟩
  | .local _ .vmem, ⟨11, _⟩ => ⟨S1x96x1x1, .f32⟩
  | .local _ .vmem, ⟨12, _⟩ => ⟨S1x96x1x1, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S1x96x128x128, .f32⟩
  | .local _ .vmem, ⟨18, _⟩ => ⟨S1x96x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x96x128x128, .f32⟩
  | .local _ .vmem, ⟨24, _⟩ => ⟨S1x96x128x128, .f32⟩
  | .local _ .smem, ⟨0, _⟩ => ⟨S2, .f32⟩
  | .local _ .smem, ⟨1, _⟩ => ⟨S8, .f32⟩
  | _, _ => ⟨S8x96x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v31 : Ref sig .tc := ⟨.hbm, 47, rfl⟩
abbrev main_v32 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![8], ![false]⟩

def k0_cond5 (i : grid0.Coords) : BitVec 1 :=
  let arg0 : BitVec 32 := BitVec.ofNat 32 (i 0).val
  let c7_i32 : BitVec 32 := 7#32
  let v312 : BitVec 1 := Scalar.cmpi .eq arg0 c7_i32
  let v313 : BitVec 32 := Scalar.extui v312
  let c0_i32_47 : BitVec 32 := 0#32
  let v314 : BitVec 1 := Scalar.cmpi .ne v313 c0_i32_47
  v314

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x96x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x96x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x96x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x96x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x96x1x1 : Shape := ⟨4, ![8, 96, 1, 1]⟩
abbrev S8x96x128x128 : Shape := ⟨4, ![8, 96, 128, 128]⟩
abbrev S_ : Shape := ⟨0, ![]⟩
abbrev S8x128x128 : Shape := ⟨3, ![8, 128, 128]⟩
abbrev S8x1x1 : Shape := ⟨3, ![8, 1, 1]⟩
abbrev S8x1x128x128 : Shape := ⟨4, ![8, 1, 128, 128]⟩
abbrev S8x2x128x128 : Shape := ⟨4, ![8, 2, 128, 128]⟩
abbrev S8x2x16384 : Shape := ⟨3, ![8, 2, 16384]⟩
abbrev S8x1x16384 : Shape := ⟨3, ![8, 1, 16384]⟩
abbrev S8x16384 : Shape := ⟨2, ![8, 16384]⟩
abbrev S8x96x16384 : Shape := ⟨3, ![8, 96, 16384]⟩
abbrev S8 : Shape := ⟨1, ![8]⟩
abbrev S8x96 : Shape := ⟨2, ![8, 96]⟩
abbrev S8x1 : Shape := ⟨2, ![8, 1]⟩
abbrev S8x12 : Shape := ⟨2, ![8, 12]⟩
abbrev S8x1x12 : Shape := ⟨3, ![8, 1, 12]⟩
abbrev S8x12x1 : Shape := ⟨3, ![8, 12, 1]⟩
abbrev S1 : Shape := ⟨1, ![1]⟩
abbrev S1x1x1 : Shape := ⟨3, ![1, 1, 1]⟩
abbrev S8x96x12 : Shape := ⟨3, ![8, 96, 12]⟩

abbrev nBuf : Space → Nat
  | .hbm => 262
  | .vmem => 0
  | .smem => 0
  | _ => 0

abbrev hbmTy0_0 (i : Nat) : BufTy := match i % 128 with
  | 0 => ⟨S8x96x1x1, .f32⟩
  | 1 => ⟨S8x96x1x1, .f32⟩
  | 2 => ⟨S8x96x128x128, .f32⟩
  | 3 => ⟨S_, .f32⟩
  | 4 => ⟨S8x96x128x128, .f32⟩
  | 5 => ⟨S8x96x128x128, .f32⟩
  | 6 => ⟨S_, .f32⟩
  | 7 => ⟨S8x128x128, .f32⟩
  | 8 => ⟨S8x96x128x128, .f32⟩
  | 9 => ⟨S_, .f32⟩
  | 10 => ⟨S8x128x128, .f32⟩
  | 11 => ⟨S8x128x128, .f32⟩
  | 12 => ⟨S8x96x1x1, .f32⟩
  | 13 => ⟨S_, .f32⟩
  | 14 => ⟨S8x1x1, .f32⟩
  | 15 => ⟨S8x1x1, .f32⟩
  | 16 => ⟨S_, .f32⟩
  | 17 => ⟨S8x128x128, .f32⟩
  | 18 => ⟨S8x128x128, .f32⟩
  | 19 => ⟨S_, .f32⟩
  | 20 => ⟨S8x1x1, .f32⟩
  | 21 => ⟨S8x1x1, .f32⟩
  | 22 => ⟨S8x128x128, .f32⟩
  | 23 => ⟨S8x128x128, .f32⟩
  | 24 => ⟨S8x128x128, .f32⟩
  | 25 => ⟨S8x96x128x128, .f32⟩
  | 26 => ⟨S8x96x128x128, .f32⟩
  | 27 => ⟨S_, .f32⟩
  | 28 => ⟨S8x128x128, .f32⟩
  | 29 => ⟨S8x96x128x128, .f32⟩
  | 30 => ⟨S_, .f32⟩
  | 31 => ⟨S8x128x128, .f32⟩
  | 32 => ⟨S8x128x128, .f32⟩
  | 33 => ⟨S8x96x1x1, .f32⟩
  | 34 => ⟨S_, .f32⟩
  | 35 => ⟨S8x1x1, .f32⟩
  | 36 => ⟨S8x1x1, .f32⟩
  | 37 => ⟨S_, .f32⟩
  | 38 => ⟨S8x128x128, .f32⟩
  | 39 => ⟨S8x128x128, .f32⟩
  | 40 => ⟨S_, .f32⟩
  | 41 => ⟨S8x1x1, .f32⟩
  | 42 => ⟨S8x1x1, .f32⟩
  | 43 => ⟨S8x128x128, .f32⟩
  | 44 => ⟨S8x128x128, .f32⟩
  | 45 => ⟨S8x128x128, .f32⟩
  | 46 => ⟨S8x1x128x128, .f32⟩
  | 47 => ⟨S8x1x128x128, .f32⟩
  | 48 => ⟨S8x2x128x128, .f32⟩
  | 49 => ⟨S_, .f32⟩
  | 50 => ⟨S8x2x128x128, .f32⟩
  | 51 => ⟨S8x2x128x128, .f32⟩
  | 52 => ⟨S_, .f32⟩
  | 53 => ⟨S8x128x128, .f32⟩
  | 54 => ⟨S_, .f32⟩
  | 55 => ⟨S8x128x128, .f32⟩
  | 56 => ⟨S8x128x128, .f32⟩
  | 57 => ⟨S8x1x128x128, .f32⟩
  | 58 => ⟨S8x2x128x128, .f32⟩
  | 59 => ⟨S8x2x128x128, .f32⟩
  | 60 => ⟨S8x2x128x128, .f32⟩
  | 61 => ⟨S_, .f32⟩
  | 62 => ⟨S8x128x128, .f32⟩
  | 63 => ⟨S8x1x128x128, .f32⟩
  | 64 => ⟨S8x2x128x128, .f32⟩
  | 65 => ⟨S8x2x128x128, .f32⟩
  | 66 => ⟨S8x2x16384, .f32⟩
  | 67 => ⟨S8x1x16384, .f32⟩
  | 68 => ⟨S8x16384, .f32⟩
  | 69 => ⟨S8x1x16384, .f32⟩
  | 70 => ⟨S8x16384, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8x96x16384, .f32⟩
  | 80 => ⟨S8x16384, .f32⟩
  | 81 => ⟨S8x16384, .i1⟩
  | 82 => ⟨S8x16384, .f32⟩
  | 83 => ⟨S_, .f32⟩
  | 84 => ⟨S8, .f32⟩
  | 85 => ⟨S8x1x16384, .f32⟩
  | 86 => ⟨S8x96x16384, .f32⟩
  | 87 => ⟨S8x96x16384, .f32⟩
  | 88 => ⟨S_, .f32⟩
  | 89 => ⟨S8x96, .f32⟩
  | 90 => ⟨S_, .f32⟩
  | 91 => ⟨S8, .f32⟩
  | 92 => ⟨S8, .f32⟩
  | 93 => ⟨S8x1, .f32⟩
  | 94 => ⟨S8x96, .f32⟩
  | 95 => ⟨S8x96, .f32⟩
  | 96 => ⟨S8x12, .f32⟩
  | 97 => ⟨S8x12, .i32⟩
  | 98 => ⟨S8x1x12, .i32⟩
  | 99 => ⟨S_, .i32⟩
  | 100 => ⟨S8x1x12, .i32⟩
  | 101 => ⟨S8x1x12, .i1⟩
  | 102 => ⟨S_, .i32⟩
  | 103 => ⟨S8x1x12, .i32⟩
  | 104 => ⟨S8x1x12, .i32⟩
  | 105 => ⟨S8x1x12, .i32⟩
  | 106 => ⟨S8x12x1, .i32⟩
  | 107 => ⟨S1, .i32⟩
  | 108 => ⟨S_, .i32⟩
  | 109 => ⟨S8x12x1, .i32⟩
  | 110 => ⟨S8x12x1, .i1⟩
  | 111 => ⟨S1x1x1, .i32⟩
  | 112 => ⟨S8x12x1, .i32⟩
  | 113 => ⟨S8x12x1, .i1⟩
  | 114 => ⟨S8x12x1, .i1⟩
  | 115 => ⟨S_, .i1⟩
  | 116 => ⟨S8x12, .i1⟩
  | 117 => ⟨S8x96x12, .f32⟩
  | 118 => ⟨S8x96x12, .i1⟩
  | 119 => ⟨S_, .f32⟩
  | 120 => ⟨S8x96x12, .f32⟩
  | 121 => ⟨S8x96x12, .f32⟩
  | 122 => ⟨S_, .f32⟩
  | 123 => ⟨S8x96, .f32⟩
  | 124 => ⟨S_, .f32⟩
  | 125 => ⟨S8x96, .f32⟩
  | 126 => ⟨S8x96, .f32⟩
  | 127 => ⟨S_, .f32⟩
  | _ => ⟨S8x96x1x1, .f32⟩

abbrev hbmTy0_1 (i : Nat) : BufTy := match i % 128 with
  | 0 => ⟨S8, .f32⟩
  | 1 => ⟨S8, .i1⟩
  | 2 => ⟨S8x1, .i1⟩
  | 3 => ⟨S8x96, .i1⟩
  | 4 => ⟨S8x96, .f32⟩
  | 5 => ⟨S8x96x1x1, .f32⟩
  | 6 => ⟨S8x16384, .f32⟩
  | 7 => ⟨S8x16384, .i1⟩
  | 8 => ⟨S8x16384, .f32⟩
  | 9 => ⟨S_, .f32⟩
  | 10 => ⟨S8, .f32⟩
  | 11 => ⟨S8x1x16384, .f32⟩
  | 12 => ⟨S8x96x16384, .f32⟩
  | 13 => ⟨S8x96x16384, .f32⟩
  | 14 => ⟨S_, .f32⟩
  | 15 => ⟨S8x96, .f32⟩
  | 16 => ⟨S_, .f32⟩
  | 17 => ⟨S8, .f32⟩
  | 18 => ⟨S8, .f32⟩
  | 19 => ⟨S8x1, .f32⟩
  | 20 => ⟨S8x96, .f32⟩
  | 21 => ⟨S8x96, .f32⟩
  | 22 => ⟨S8x12, .f32⟩
  | 23 => ⟨S8x12, .i32⟩
  | 24 => ⟨S8x1x12, .i32⟩
  | 25 => ⟨S_, .i32⟩
  | 26 => ⟨S8x1x12, .i32⟩
  | 27 => ⟨S8x1x12, .i1⟩
  | 28 => ⟨S_, .i32⟩
  | 29 => ⟨S8x1x12, .i32⟩
  | 30 => ⟨S8x1x12, .i32⟩
  | 31 => ⟨S8x1x12, .i32⟩
  | 32 => ⟨S8x12x1, .i32⟩
  | 33 => ⟨S1, .i32⟩
  | 34 => ⟨S_, .i32⟩
  | 35 => ⟨S8x12x1, .i32⟩
  | 36 => ⟨S8x12x1, .i1⟩
  | 37 => ⟨S1x1x1, .i32⟩
  | 38 => ⟨S8x12x1, .i32⟩
  | 39 => ⟨S8x12x1, .i1⟩
  | 40 => ⟨S8x12x1, .i1⟩
  | 41 => ⟨S_, .i1⟩
  | 42 => ⟨S8x12, .i1⟩
  | 43 => ⟨S8x96x12, .f32⟩
  | 44 => ⟨S8x96x12, .i1⟩
  | 45 => ⟨S_, .f32⟩
  | 46 => ⟨S8x96x12, .f32⟩
  | 47 => ⟨S8x96x12, .f32⟩
  | 48 => ⟨S_, .f32⟩
  | 49 => ⟨S8x96, .f32⟩
  | 50 => ⟨S_, .f32⟩
  | 51 => ⟨S8x96, .f32⟩
  | 52 => ⟨S8x96, .f32⟩
  | 53 => ⟨S_, .f32⟩
  | 54 => ⟨S8, .f32⟩
  | 55 => ⟨S8, .i1⟩
  | 56 => ⟨S8x1, .i1⟩
  | 57 => ⟨S8x96, .i1⟩
  | 58 => ⟨S8x96, .f32⟩
  | 59 => ⟨S8x96x1x1, .f32⟩
  | 60 => ⟨S8x96x128x128, .f32⟩
  | 61 => ⟨S8x96x128x128, .f32⟩
  | 62 => ⟨S_, .f32⟩
  | 63 => ⟨S8x128x128, .f32⟩
  | 64 => ⟨S8x96x128x128, .f32⟩
  | 65 => ⟨S_, .f32⟩
  | 66 => ⟨S8x128x128, .f32⟩
  | 67 => ⟨S8x128x128, .f32⟩
  | 68 => ⟨S8x96x1x1, .f32⟩
  | 69 => ⟨S_, .f32⟩
  | 70 => ⟨S8x1x1, .f32⟩
  | 71 => ⟨S8x1x1, .f32⟩
  | 72 => ⟨S_, .f32⟩
  | 73 => ⟨S8x128x128, .f32⟩
  | 74 => ⟨S8x128x128, .f32⟩
  | 75 => ⟨S_, .f32⟩
  | 76 => ⟨S8x1x1, .f32⟩
  | 77 => ⟨S8x1x1, .f32⟩
  | 78 => ⟨S8x128x128, .f32⟩
  | 79 => ⟨S8x128x128, .f32⟩
  | 80 => ⟨S8x128x128, .f32⟩
  | 81 => ⟨S8x1x128x128, .f32⟩
  | 82 => ⟨S8x96x128x128, .f32⟩
  | 83 => ⟨S8x96x128x128, .f32⟩
  | 84 => ⟨S_, .f32⟩
  | 85 => ⟨S8x128x128, .f32⟩
  | 86 => ⟨S8x96x128x128, .f32⟩
  | 87 => ⟨S_, .f32⟩
  | 88 => ⟨S8x128x128, .f32⟩
  | 89 => ⟨S8x128x128, .f32⟩
  | 90 => ⟨S8x96x1x1, .f32⟩
  | 91 => ⟨S_, .f32⟩
  | 92 => ⟨S8x1x1, .f32⟩
  | 93 => ⟨S8x1x1, .f32⟩
  | 94 => ⟨S_, .f32⟩
  | 95 => ⟨S8x128x128, .f32⟩
  | 96 => ⟨S8x128x128, .f32⟩
  | 97 => ⟨S_, .f32⟩
  | 98 => ⟨S8x1x1, .f32⟩
  | 99 => ⟨S8x1x1, .f32⟩
  | 100 => ⟨S8x128x128, .f32⟩
  | 101 => ⟨S8x128x128, .f32⟩
  | 102 => ⟨S8x128x128, .f32⟩
  | 103 => ⟨S8x1x128x128, .f32⟩
  | 104 => ⟨S_, .f32⟩
  | 105 => ⟨S_, .f32⟩
  | 106 => ⟨S8x1x128x128, .f32⟩
  | 107 => ⟨S8x1x128x128, .f32⟩
  | 108 => ⟨S_, .f32⟩
  | 109 => ⟨S_, .f32⟩
  | 110 => ⟨S_, .f32⟩
  | 111 => ⟨S_, .f32⟩
  | 112 => ⟨S_, .f32⟩
  | 113 => ⟨S8x1x128x128, .f32⟩
  | 114 => ⟨S8x1x128x128, .f32⟩
  | 115 => ⟨S_, .f32⟩
  | 116 => ⟨S_, .f32⟩
  | 117 => ⟨S8x1x128x128, .f32⟩
  | 118 => ⟨S8x1x128x128, .f32⟩
  | 119 => ⟨S_, .f32⟩
  | 120 => ⟨S_, .f32⟩
  | 121 => ⟨S_, .f32⟩
  | 122 => ⟨S_, .f32⟩
  | 123 => ⟨S_, .f32⟩
  | 124 => ⟨S8x1x128x128, .f32⟩
  | 125 => ⟨S8x1x128x128, .f32⟩
  | 126 => ⟨S8x96x128x128, .f32⟩
  | 127 => ⟨S8x96x128x128, .f32⟩
  | _ => ⟨S8x96x1x1, .f32⟩

abbrev hbmTy0_2 (i : Nat) : BufTy := match i % 128 with
  | 0 => ⟨S_, .f32⟩
  | 1 => ⟨S8x1x128x128, .f32⟩
  | 2 => ⟨S8x1x128x128, .f32⟩
  | 3 => ⟨S8x96x128x128, .f32⟩
  | 4 => ⟨S8x96x128x128, .f32⟩
  | 5 => ⟨S8x96x128x128, .f32⟩
  | _ => ⟨S8x96x1x1, .f32⟩

abbrev hbmTy (i : Nat) : BufTy := match i / 128 with
  | 0 => hbmTy0_0 i
  | 1 => hbmTy0_1 i
  | 2 => hbmTy0_2 i
  | _ => ⟨S8x96x1x1, .f32⟩

abbrev bufTy : (tb : Table) → Fin (tcTables nBuf tb) → BufTy
  | .hbm, ⟨i, _⟩ => hbmTy i
  | _, _ => ⟨S8x96x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_cst_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_values : Ref sig .tc := ⟨.hbm, 96, rfl⟩
abbrev main_indices : Ref sig .tc := ⟨.hbm, 97, rfl⟩
abbrev main_v72 : Ref sig .tc := ⟨.hbm, 98, rfl⟩
abbrev main_call0_c : Ref sig .tc := ⟨.hbm, 99, rfl⟩
abbrev main_call0_v0 : Ref sig .tc := ⟨.hbm, 100, rfl⟩
abbrev main_call0_v1 : Ref sig .tc := ⟨.hbm, 101, rfl⟩
abbrev main_call0_c_0 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_v5 : Ref sig .tc := ⟨.hbm, 106, rfl⟩
abbrev main_call0_c_1 : Ref sig .tc := ⟨.hbm, 107, rfl⟩
abbrev main_call0_c_2 : Ref sig .tc := ⟨.hbm, 108, rfl⟩
abbrev main_call0_v6 : Ref sig .tc := ⟨.hbm, 109, rfl⟩
abbrev main_call0_v7 : Ref sig .tc := ⟨.hbm, 110, rfl⟩
abbrev main_call0_v8 : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_c_3 : Ref sig .tc := ⟨.hbm, 115, rfl⟩
abbrev main_call0_v12 : Ref sig .tc := ⟨.hbm, 116, rfl⟩
abbrev main_call0_v13 : Ref sig .tc := ⟨.hbm, 117, rfl⟩
abbrev main_call0_v14 : Ref sig .tc := ⟨.hbm, 118, rfl⟩
abbrev main_call0_cst : Ref sig .tc := ⟨.hbm, 119, rfl⟩
abbrev main_call0_v15 : Ref sig .tc := ⟨.hbm, 120, rfl⟩
abbrev main_v73 : Ref sig .tc := ⟨.hbm, 121, rfl⟩
abbrev main_cst_19 : Ref sig .tc := ⟨.hbm, 122, rfl⟩
abbrev main_v74 : Ref sig .tc := ⟨.hbm, 123, rfl⟩
abbrev main_cst_20 : Ref sig .tc := ⟨.hbm, 124, rfl⟩
abbrev main_v75 : Ref sig .tc := ⟨.hbm, 125, rfl⟩
abbrev main_v76 : Ref sig .tc := ⟨.hbm, 126, rfl⟩
abbrev main_cst_21 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_call1_v0 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_22 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_23 : Ref sig .tc := ⟨.hbm, 142, rfl⟩
abbrev main_v89 : Ref sig .tc := ⟨.hbm, 143, rfl⟩
abbrev main_cst_24 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_values_25 : Ref sig .tc := ⟨.hbm, 150, rfl⟩
abbrev main_indices_26 : Ref sig .tc := ⟨.hbm, 151, rfl⟩
abbrev main_v95 : Ref sig .tc := ⟨.hbm, 152, rfl⟩
abbrev main_call2_c : Ref sig .tc := ⟨.hbm, 153, rfl⟩
abbrev main_call2_v0 : Ref sig .tc := ⟨.hbm, 154, rfl⟩
abbrev main_call2_v1 : Ref sig .tc := ⟨.hbm, 155, rfl⟩
abbrev main_call2_c_0 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_c_1 : Ref sig .tc := ⟨.hbm, 161, rfl⟩
abbrev main_call2_c_2 : Ref sig .tc := ⟨.hbm, 162, rfl⟩
abbrev main_call2_v6 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_call2_v11 : Ref sig .tc := ⟨.hbm, 168, rfl⟩
abbrev main_call2_c_3 : Ref sig .tc := ⟨.hbm, 169, rfl⟩
abbrev main_call2_v12 : Ref sig .tc := ⟨.hbm, 170, rfl⟩
abbrev main_call2_v13 : Ref sig .tc := ⟨.hbm, 171, rfl⟩
abbrev main_call2_v14 : Ref sig .tc := ⟨.hbm, 172, rfl⟩
abbrev main_call2_cst : Ref sig .tc := ⟨.hbm, 173, rfl⟩
abbrev main_call2_v15 : Ref sig .tc := ⟨.hbm, 174, rfl⟩
abbrev main_v96 : Ref sig .tc := ⟨.hbm, 175, rfl⟩
abbrev main_cst_27 : Ref sig .tc := ⟨.hbm, 176, rfl⟩
abbrev main_v97 : Ref sig .tc := ⟨.hbm, 177, rfl⟩
abbrev main_cst_28 : Ref sig .tc := ⟨.hbm, 178, rfl⟩
abbrev main_v98 : Ref sig .tc := ⟨.hbm, 179, rfl⟩
abbrev main_v99 : Ref sig .tc := ⟨.hbm, 180, rfl⟩
abbrev main_cst_29 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_call3_v0 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_cst_30 : Ref sig .tc := ⟨.hbm, 190, rfl⟩
abbrev main_v107 : Ref sig .tc := ⟨.hbm, 191, rfl⟩
abbrev main_v108 : Ref sig .tc := ⟨.hbm, 192, rfl⟩
abbrev main_cst_31 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_32 : Ref sig .tc := ⟨.hbm, 197, rfl⟩
abbrev main_v112 : Ref sig .tc := ⟨.hbm, 198, rfl⟩
abbrev main_v113 : Ref sig .tc := ⟨.hbm, 199, rfl⟩
abbrev main_cst_33 : Ref sig .tc := ⟨.hbm, 200, rfl⟩
abbrev main_v114 : Ref sig .tc := ⟨.hbm, 201, rfl⟩
abbrev main_v115 : Ref sig .tc := ⟨.hbm, 202, rfl⟩
abbrev main_cst_34 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_35 : Ref sig .tc := ⟨.hbm, 212, rfl⟩
abbrev main_v124 : Ref sig .tc := ⟨.hbm, 213, rfl⟩
abbrev main_v125 : Ref sig .tc := ⟨.hbm, 214, rfl⟩
abbrev main_cst_36 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_cst_37 : Ref sig .tc := ⟨.hbm, 219, rfl⟩
abbrev main_v129 : Ref sig .tc := ⟨.hbm, 220, rfl⟩
abbrev main_v130 : Ref sig .tc := ⟨.hbm, 221, rfl⟩
abbrev main_cst_38 : Ref sig .tc := ⟨.hbm, 222, rfl⟩
abbrev main_v131 : Ref sig .tc := ⟨.hbm, 223, rfl⟩
abbrev main_v132 : Ref sig .tc := ⟨.hbm, 224, rfl⟩
abbrev main_cst_39 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_40 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_41 : Ref sig .tc := ⟨.hbm, 236, rfl⟩
abbrev main_v142 : Ref sig .tc := ⟨.hbm, 237, rfl⟩
abbrev main_cst_42 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_43 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_cst_44 : Ref sig .tc := ⟨.hbm, 247, rfl⟩
abbrev main_v150 : Ref sig .tc := ⟨.hbm, 248, rfl⟩
abbrev main_cst_45 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_cst_46 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩

abbrev nD : Nat := 1
abbrev τ : Topo := Topo.v7x

variable {F : FTy → Type} [FloatOps F]
-- ==== Proof.I.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionArraysS
public import Idealize.ShloMosaic.Lib.Pipeline.ValueKit
public import Idealize.ShloMosaic.Lib.Tactic

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

omit [FloatOps F] in
/-- A store over a whole block, read back. -/
theorem read_store [∀ e, Nonempty (Elt F e)] {sp : Space} {S : Shape} {e : EltTy} (M : Memref sig .tc sp S e) (f : M.view.ty.Contents (Elt F))
    {off : Fin S.rank → Nat} (h : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w :=
  (View.read_writes_eq_canon _ _ _ fun y => ⟨_, List.mem_cons_self, View.mem_set_unit_zero h inb y⟩).trans (View.canon_cons_unit_zero h inb w L)

omit [FloatOps F] in
/-- A load of a whole block. -/
theorem readAt_whole {sp : Space} {S : Shape} {e : EltTy} {M : Memref sig .tc sp S e} {f : M.view.ty.Contents (Elt F)} {X : S.Idx → Elt F e}
    (hf : M.view.read (Elt F) f = X) {off : Fin S.rank → Nat} (h : off = fun _ => 0) (inb : ∀ a, off a + S.size a ≤ S.size a) :
    M.view.readAt (Elt F) (Rect.unit off S.size inb).toLoadRect f = X := by
  subst hf; exact View.ld_unit_zero h inb _

/-- The word that the kernel reads from the thresholds' block. -/
def thW (X1 : FVec F S2 .f32) : F .f32 := X1 (ix1 0)

omit [FloatOps F] in
/-- The load of that word. -/
theorem readAt_th {M : Memref sig .tc .smem S2 .f32} {f : M.view.ty.Contents (Elt F)} {X : FVec F S2 .f32}
    (hf : M.view.read (Elt F) f = X) (h : 0 < S1.numel) :
    M.view.readAt (Elt F) (Rect.unit (s := S2) ![0] S1.size inb_S2_S1_0).toLoadRect f (Shape.Idx.first h) = thW X := by
  subst hf
  show M.view.read (Elt F) f _ = M.view.read (Elt F) f _
  congr 1
  funext a
  fin_cases a
  apply Fin.ext
  show 0 + 1 * _ = 0
  simp

theorem z4 : (![0, 0, 0, 0] : Fin 4 → ℕ) = fun _ => 0 := by funext i; fin_cases i <;> rfl
theorem z3 : (![0, 0, 0] : Fin 3 → ℕ) = fun _ => 0 := by funext i; fin_cases i <;> rfl
theorem z2 : (![0, 0] : Fin 2 → ℕ) = fun _ => 0 := by funext i; fin_cases i <;> rfl

omit [FloatOps F] in
/-- A scratch block stored whole and loaded whole. -/
theorem readCov8 [∀ e, Nonempty (Elt F e)] (M : Memref sig .tc .vmem S8x128 .f32) (w : FVec F S8x128 .f32) :
    M.view.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero (Val := Elt F) (S := S8x128) (e := .f32) M.view (off := ![0, 0]) z2 inb_S8x128_S8x128_0_0 w

/-- The twelve-round selection of the foreground side, on the confidences `v22`. -/
def topFg (v1 : FVec F S96x128x128 .f32) (v22 : FVec F S128x128 .f32) : FVec F S1x96x1x1 .f32 :=
  let v319 := k0_pay10
  let v356 := k0_pay14 v22
  let v358 := k0_pay15 v22
  let v363 := k0_pay16 v22
  let v396 := k0_pay20 v319 v358 v363
  let v410 := k0_pay21 v319 v358 v363
  let v413 := k0_pay22 v319 v356 v358 v363
  let v451 := k0_pay27 v319 v396 v410 v413
  let v453 := k0_pay28 v319 v396 v410
  let v462 := k0_pay29 v319 v396 v410
  k0_pay79 v1 v319 (k0_pay35 v319 v451 v453 v462) (k0_pay36 v319 v453 v462) (k0_pay37 v319 v453 v462)

/-- The twelve-round selection of the background side, on the confidences `v22`. -/
def topBg (v1 : FVec F S96x128x128 .f32) (v22 : FVec F S128x128 .f32) : FVec F S1x96x1x1 .f32 :=
  let v321 := k0_pay39
  let v358 := k0_pay43 v22
  let v360 := k0_pay44 v22
  let v362 := k0_pay45 v22
  let v396 := k0_pay49 v321 v358 v360 v362
  let v398 := k0_pay50 v321 v360 v362
  let v412 := k0_pay51 v321 v360 v362
  let v453 := k0_pay56 v321 v396 v398 v412
  let v455 := k0_pay57 v321 v398 v412
  let v461 := k0_pay58 v321 v398 v412
  let v493 := k0_pay62 v321 v455 v461 16384#32
  let v507 := k0_pay63 v321 v455 v461 16384#32
  let v510 := k0_pay64 v321 v453 v455 v461 16384#32
  k0_pay81 (k0_pay66 v1 v321 v493 v507 v510 (k0_pay65 (F := F))) (k0_pay67 (F := F))

/-- Whether a scalar is greater than zero, as the word the kernel branches on. -/
def posBit (x : F .f32) : BitVec 1 :=
  Scalar.cmpi .ne (Scalar.extui (Scalar.cmpf .ogt x (Scalar.ofBits .f32 0x00000000#32)) : BitVec 32) 0#32

/-- The foreground prototype: the masked mean, or the selection where no pixel is in the mask. -/
def fgpV (v1 : FVec F S96x128x128 .f32) (v22 v26 : FVec F S128x128 .f32) (v65 : FVec F S1x96x1x1 .f32) : FVec F S1x96x1x1 .f32 :=
  if posBit (k0_pay76 v26) = 1#1 then k0_pay78 v26 v65 else topFg v1 v22

/-- The background prototype: the masked mean, or the selection where every pixel is in the mask. -/
def bgpV (v1 : FVec F S96x128x128 .f32) (v22 v26 : FVec F S128x128 .f32) (v65 : FVec F S1x96x1x1 .f32) (v98 : FVec F S96x8x1 .f32) : FVec F S1x96x1x1 .f32 :=
  if posBit (k0_pay77 v26) = 1#1 then k0_pay80 v26 v65 v98 else topBg v1 v22

/-- The part that chooses and stores the foreground prototype, its two choices named. -/
def part12 (i : grid0.Coords) (arg1 : Memref sig .tc .smem S2 .f32) (harg1 : arg1.IsWhole) (arg2 : Memref sig .tc .vmem S1x96x1x1 .f32) (harg2 : arg2.IsWhole) (arg3 : Memref sig .tc .vmem S1x96x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x8 .f32) (harg6 : arg6.IsWhole) (arg7 : Memref sig .tc .vmem S1x96x1x1 .f32) (harg7 : arg7.IsWhole) (arg8 : Memref sig .tc .vmem S1x96x1x1 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (v1 : FVec F S96x128x128 .f32) (v22 : FVec F S128x128 .f32) (v26 : FVec F S128x128 .f32) (v65 : FVec F S1x96x1x1 .f32) (v98 : FVec F S96x8x1 .f32) :
    Prog (TpuEff nD τ sig (Elt F) Λ₀ .tc) (Σ' (v141 : FVec F S1x96x1x1 .f32), FVec F S1x96x1x1 .f32) := do
  let v146 : Vec F S1x96x1x1 .f32 ← Prog.lift (.load arg7 (Rect.unit (s := S1x96x1x1) ![0, 0, 0, 0] S1x96x1x1.size inb_S1x96x1x1_S1x96x1x1_0_0_0_0).toLoadRect (View.loadsAt_vmem h_S1x96x1x1))
  Prog.lift (.store arg7 (Rect.unit (s := S1x96x1x1) ![0, 0, 0, 0] S1x96x1x1.size inb_S1x96x1x1_S1x96x1x1_0_0_0_0) (fgpV v1 v22 v26 v65) Finset.univ (View.stores_vmem_bits_univ h_S1x96x1x1 rfl) (.inl rfl))
  pure ⟨fgpV v1 v22 v26 v65, bgpV v1 v22 v26 v65 v98⟩

set_option maxRecDepth 65536 in
theorem part12_eq : k0_part12 (F := F) = part12 (F := F) := by
  rw [k0_part12_eq_skeleton]
  funext i arg1 harg1 arg2 harg2 arg3 harg3 arg4 harg4 arg5 harg5 arg6 harg6 arg7 harg7 arg8 harg8 arg9 harg9 arg10 harg10 arg11 harg11 arg12 harg12 v1 v22 v26 v65 v98
  unfold k0_part12_skel part12
  rw [k0_part1_eq_skeleton, k0_part2_eq_skeleton, k0_part3_eq_skeleton, k0_part4_eq_skeleton, k0_part9_eq_skeleton]
  unfold k0_part9_skel
  rw [k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [LawfulMonad.pure_bind]
  unfold fgpV bgpV topFg topBg posBit
  split_ifs <;> rfl

/-! ## What one grid point computes, from its query block `x`, its weight block `w` and the threshold word `th` -/

section Values

variable (x : FVec F S1x96x128x128 .f32) (w : FVec F S1x96x1x1 .f32) (th : F .f32)

/-- The foreground prototype of one image. -/
def fgB : FVec F S1x96x1x1 .f32 :=
  fgpV (k0_pay68 x) (k0_pay70 x w) (k0_pay71 x w th) (k0_pay74 (k0_pay72 x w th) (k0_pay73 x w th))
/-- The background prototype of one image. -/
def bgB : FVec F S1x96x1x1 .f32 :=
  bgpV (k0_pay68 x) (k0_pay70 x w) (k0_pay71 x w th) (k0_pay74 (k0_pay72 x w th) (k0_pay73 x w th)) (k0_pay75 (k0_pay68 x))
/-- The foreground similarity map of one image, as a plane and as the block that is stored. -/
def aP : FVec F S128x128 .f32 := k0_pay82 (k0_pay68 x) (k0_pay69 x) (fgB x w th)
def aB : FVec F S1x128x128 .f32 := k0_pay84 (k0_pay68 x) (k0_pay69 x) (fgB x w th)
/-- The background similarity map of one image, as a plane and as the block that is stored. -/
def dP : FVec F S128x128 .f32 := k0_pay83 (k0_pay68 x) (k0_pay69 x) (bgB x w th)
def dB : FVec F S1x128x128 .f32 := k0_pay85 (k0_pay68 x) (k0_pay69 x) (bgB x w th)
/-- The least and the greatest value of both maps, folded to eight rows. -/
def aMin : FVec F S8x128 .f32 := k0_pay87 (aP x w th) (k0_pay86 (k0_pay68 x) (k0_pay69 x) (fgB x w th))
def aMax : FVec F S8x128 .f32 := k0_pay88 (aP x w th)
def dMin : FVec F S8x128 .f32 := k0_pay90 (dP x w th) (k0_pay89 (dP x w th))
def dMax : FVec F S8x128 .f32 := k0_pay91 (dP x w th)

end Values

/-- The kernel's two conditions on the grid coordinate that it computes in place. -/
abbrev isFirst (i : grid0.Coords) : Prop :=
  Scalar.cmpi .ne (Scalar.extui (Scalar.cmpi .eq (BitVec.ofNat 32 (i 0).val) 0#32) : BitVec 32) 0#32 = 1#1
abbrev isLater (i : grid0.Coords) : Prop :=
  Scalar.cmpi .ne (Scalar.extui (Scalar.cmpi .ne (BitVec.ofNat 32 (i 0).val) 0#32) : BitVec 32) 0#32 = 1#1

set_option maxRecDepth 65536

/-- The first grid point: both maps, both prototypes, and the scratch set to this point's extremes. -/
theorem runFirst (c : Dev nD) (i : grid0.Coords) (hi : isFirst i) (hl : ¬ isLater i) (he : ¬ k0_cond5 i = 1#1)
    (M1 : Memref sig .tc .smem S2 .f32) (h1 : M1.IsWhole)
    (M2 : Memref sig .tc .vmem S1x96x1x1 .f32) (h2 : M2.IsWhole)
    (M3 : Memref sig .tc .vmem S1x96x128x128 .f32) (h3 : M3.IsWhole)
    (M4 : Memref sig .tc .vmem S1x128x128 .f32) (h4 : M4.IsWhole)
    (M5 : Memref sig .tc .vmem S1x128x128 .f32) (h5 : M5.IsWhole)
    (M6 : Memref sig .tc .vmem S1x8 .f32) (h6 : M6.IsWhole)
    (M7 : Memref sig .tc .vmem S1x96x1x1 .f32) (h7 : M7.IsWhole)
    (M8 : Memref sig .tc .vmem S1x96x1x1 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .f32) (h11 : M11.IsWhole)
    (M12 : Memref sig .tc .vmem S8x128 .f32) (h12 : M12.IsWhole)
    (X1 : FVec F S2 .f32) (X2 : FVec F S1x96x1x1 .f32) (X3 : FVec F S1x96x128x128 .f32)
    (Y4 : FVec F S1x128x128 .f32) (Y5 : FVec F S1x128x128 .f32) (Y7 : FVec F S1x96x1x1 .f32) (Y8 : FVec F S1x96x1x1 .f32) (Y9 : FVec F S8x128 .f32) (Y10 : FVec F S8x128 .f32) (Y11 : FVec F S8x128 .f32) (Y12 : FVec F S8x128 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare Y4
        ∗ owns (c : Thread nD τ) M5 fullShare Y5
        ∗ owns (c : Thread nD τ) M7 fullShare Y7
        ∗ owns (c : Thread nD τ) M8 fullShare Y8
        ∗ owns (c : Thread nD τ) M9 fullShare Y9
        ∗ owns (c : Thread nD τ) M10 fullShare Y10
        ∗ owns (c : Thread nD τ) M11 fullShare Y11
        ∗ owns (c : Thread nD τ) M12 fullShare Y12
        ∗ (iprop(owns (c : Thread nD τ) M1 fullShare X1 ∗ owns (c : Thread nD τ) M2 fullShare X2 ∗ owns (c : Thread nD τ) M3 fullShare X3
            ∗ owns (c : Thread nD τ) M4 fullShare (aB X3 X2 (thW X1))
            ∗ owns (c : Thread nD τ) M5 fullShare (dB X3 X2 (thW X1))
            ∗ owns (c : Thread nD τ) M7 fullShare (fgB X3 X2 (thW X1))
            ∗ owns (c : Thread nD τ) M8 fullShare (bgB X3 X2 (thW X1))
            ∗ owns (c : Thread nD τ) M9 fullShare (k0_pay1 (aMin X3 X2 (thW X1)))
            ∗ owns (c : Thread nD τ) M10 fullShare (k0_pay2 (aMax X3 X2 (thW X1)))
            ∗ owns (c : Thread nD τ) M11 fullShare (k0_pay3 (dMin X3 X2 (thW X1)))
            ∗ owns (c : Thread nD τ) M12 fullShare (k0_pay4 (dMax X3 X2 (thW X1)))) -∗ Q ⟨⟩))
      ⊢ wp frame (wpE (defs₀ (F := F)) Variants.none c none) E (cc0__p12_body i M1 h1 M2 h2 M3 h3 M4 h4 M5 h5 M6 h6 M7 h7 M8 h8 M9 h9 M10 h10 M11 h11 M12 h12) Q := by
  rw [cc0__p12_body_eq_skeleton]
  unfold cc0__p12_body_skel
  simp only [part12_eq, k0_part10_eq_skeleton, k0_part11_eq_skeleton, k0_part13_eq_skeleton, k0_part14_eq_skeleton, k0_part15_eq_skeleton]
  unfold owns
  iintro ⟨⟨%f1, %hf1, H1⟩, ⟨%f2, %hf2, H2⟩, ⟨%f3, %hf3, H3⟩, ⟨%f4, -, H4⟩, ⟨%f5, -, H5⟩, ⟨%f7, -, H7⟩, ⟨%f8, -, H8⟩, ⟨%f9, -, H9⟩, ⟨%f10, -, H10⟩, ⟨%f11, -, H11⟩, ⟨%f12, -, H12⟩, Hk⟩
  have e3 := readAt_whole hf3 z4 inb_S1x96x128x128_S1x96x128x128_0_0_0_0
  have e2 := readAt_whole hf2 z4 inb_S1x96x1x1_S1x96x1x1_0_0_0_0
  have e1 := fun h => readAt_th hf1 h
  sl_exec
  sl_step
  iapply Hk
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]
  · iexists _; isplitr; swap; (· iexact H4); ipureintro
    refine (read_store M4 _ z3 _ _ _).trans ?_
    sl_unfold_run_names
    simp only [e1, e3, e2]
    rfl
  isplitl [H5]
  · iexists _; isplitr; swap; (· iexact H5); ipureintro
    refine (read_store M5 _ z3 _ _ _).trans ?_
    sl_unfold_run_names
    simp only [e1, e3, e2]
    rfl
  isplitl [H7]
  · iexists _; isplitr; swap; (· iexact H7); ipureintro
    refine (read_store M7 _ z4 _ _ _).trans ?_
    sl_unfold_run_names
    simp only [e1, e3, e2]
    rfl
  isplitl [H8]
  · iexists _; isplitr; swap; (· iexact H8); ipureintro
    refine (read_store M8 _ z4 _ _ _).trans ?_
    sl_unfold_run_names
    simp only [e1, e3, e2]
    rfl
  isplitl [H9]
  · iexists _; isplitr; swap; (· iexact H9); ipureintro
    refine (read_store M9 _ z2 _ _ _).trans ?_
    sl_unfold_run_names
    simp only [e1, e3, e2]
    rfl
  isplitl [H10]
  · iexists _; isplitr; swap; (· iexact H10); ipureintro
    refine (read_store M10 _ z2 _ _ _).trans ?_
    sl_unfold_run_names
    simp only [e1, e3, e2]
    rfl
  isplitl [H11]
  · iexists _; isplitr; swap; (· iexact H11); ipureintro
    refine (read_store M11 _ z2 _ _ _).trans ?_
    sl_unfold_run_names
    simp only [e1, e3, e2]
    rfl
  iexists _; isplitr; swap; (· iexact H12); ipureintro
  refine (read_store M12 _ z2 _ _ _).trans ?_
  sl_unfold_run_names
  simp only [e1, e3, e2]
  rfl

/-- A later grid point that is not the last: the scratch is joined with this point's extremes. -/
theorem runMid (c : Dev nD) (i : grid0.Coords) (hi : ¬ isFirst i) (hl : isLater i) (he : ¬ k0_cond5 i = 1#1)
    (M1 : Memref sig .tc .smem S2 .f32) (h1 : M1.IsWhole)
    (M2 : Memref sig .tc .vmem S1x96x1x1 .f32) (h2 : M2.IsWhole)
    (M3 : Memref sig .tc .vmem S1x96x128x128 .f32) (h3 : M3.IsWhole)
    (M4 : Memref sig .tc .vmem S1x128x128 .f32) (h4 : M4.IsWhole)
    (M5 : Memref sig .tc .vmem S1x128x128 .f32) (h5 : M5.IsWhole)
    (M6 : Memref sig .tc .vmem S1x8 .f32) (h6 : M6.IsWhole)
    (M7 : Memref sig .tc .vmem S1x96x1x1 .f32) (h7 : M7.IsWhole)
    (M8 : Memref sig .tc .vmem S1x96x1x1 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .f32) (h11 : M11.IsWhole)
    (M12 : Memref sig .tc .vmem S8x128 .f32) (h12 : M12.IsWhole)
    (X1 : FVec F S2 .f32) (X2 : FVec F S1x96x1x1 .f32) (X3 : FVec F S1x96x128x128 .f32)
    (Y4 : FVec F S1x128x128 .f32) (Y5 : FVec F S1x128x128 .f32) (Y7 : FVec F S1x96x1x1 .f32) (Y8 : FVec F S1x96x1x1 .f32) (Y9 : FVec F S8x128 .f32) (Y10 : FVec F S8x128 .f32) (Y11 : FVec F S8x128 .f32) (Y12 : FVec F S8x128 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare Y4
        ∗ owns (c : Thread nD τ) M5 fullShare Y5
        ∗ owns (c : Thread nD τ) M7 fullShare Y7
        ∗ owns (c : Thread nD τ) M8 fullShare Y8
        ∗ owns (c : Thread nD τ) M9 fullShare Y9
        ∗ owns (c : Thread nD τ) M10 fullShare Y10
        ∗ owns (c : Thread nD τ) M11 fullShare Y11
        ∗ owns (c : Thread nD τ) M12 fullShare Y12
        ∗ (iprop(owns (c : Thread nD τ) M1 fullShare X1 ∗ owns (c : Thread nD τ) M2 fullShare X2 ∗ owns (c : Thread nD τ) M3 fullShare X3
            ∗ owns (c : Thread nD τ) M4 fullShare (aB X3 X2 (thW X1))
            ∗ owns (c : Thread nD τ) M5 fullShare (dB X3 X2 (thW X1))
            ∗ owns (c : Thread nD τ) M7 fullShare (fgB X3 X2 (thW X1))
            ∗ owns (c : Thread nD τ) M8 fullShare (bgB X3 X2 (thW X1))
            ∗ owns (c : Thread nD τ) M9 fullShare (k0_pay5 (aMin X3 X2 (thW X1)) Y9)
            ∗ owns (c : Thread nD τ) M10 fullShare (k0_pay6 (aMax X3 X2 (thW X1)) Y10)
            ∗ owns (c : Thread nD τ) M11 fullShare (k0_pay7 (dMin X3 X2 (thW X1)) Y11)
            ∗ owns (c : Thread nD τ) M12 fullShare (k0_pay8 (dMax X3 X2 (thW X1)) Y12)) -∗ Q ⟨⟩))
      ⊢ wp frame (wpE (defs₀ (F := F)) Variants.none c none) E (cc0__p12_body i M1 h1 M2 h2 M3 h3 M4 h4 M5 h5 M6 h6 M7 h7 M8 h8 M9 h9 M10 h10 M11 h11 M12 h12) Q := by
  rw [cc0__p12_body_eq_skeleton]
  unfold cc0__p12_body_skel
  simp only [part12_eq, k0_part10_eq_skeleton, k0_part11_eq_skeleton, k0_part13_eq_skeleton, k0_part14_eq_skeleton, k0_part15_eq_skeleton]
  unfold owns
  iintro ⟨⟨%f1, %hf1, H1⟩, ⟨%f2, %hf2, H2⟩, ⟨%f3, %hf3, H3⟩, ⟨%f4, -, H4⟩, ⟨%f5, -, H5⟩, ⟨%f7, -, H7⟩, ⟨%f8, -, H8⟩, ⟨%f9, %hf9, H9⟩, ⟨%f10, %hf10, H10⟩, ⟨%f11, %hf11, H11⟩, ⟨%f12, %hf12, H12⟩, Hk⟩
  have e3 := readAt_whole hf3 z4 inb_S1x96x128x128_S1x96x128x128_0_0_0_0
  have e2 := readAt_whole hf2 z4 inb_S1x96x1x1_S1x96x1x1_0_0_0_0
  have e9 := readAt_whole hf9 z2 inb_S8x128_S8x128_0_0
  have e10 := readAt_whole hf10 z2 inb_S8x128_S8x128_0_0
  have e11 := readAt_whole hf11 z2 inb_S8x128_S8x128_0_0
  have e12 := readAt_whole hf12 z2 inb_S8x128_S8x128_0_0
  have e1 := fun h => readAt_th hf1 h
  sl_exec
  sl_step
  iapply Hk
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]
  · iexists _; isplitr; swap; (· iexact H4); ipureintro
    refine (read_store M4 _ z3 _ _ _).trans ?_
    sl_unfold_run_names
    simp only [e1, e3, e2, e9, e10, e11, e12]
    rfl
  isplitl [H5]
  · iexists _; isplitr; swap; (· iexact H5); ipureintro
    refine (read_store M5 _ z3 _ _ _).trans ?_
    sl_unfold_run_names
    simp only [e1, e3, e2, e9, e10, e11, e12]
    rfl
  isplitl [H7]
  · iexists _; isplitr; swap; (· iexact H7); ipureintro
    refine (read_store M7 _ z4 _ _ _).trans ?_
    sl_unfold_run_names
    simp only [e1, e3, e2, e9, e10, e11, e12]
    rfl
  isplitl [H8]
  · iexists _; isplitr; swap; (· iexact H8); ipureintro
    refine (read_store M8 _ z4 _ _ _).trans ?_
    sl_unfold_run_names
    simp only [e1, e3, e2, e9, e10, e11, e12]
    rfl
  isplitl [H9]
  · iexists _; isplitr; swap; (· iexact H9); ipureintro
    refine (read_store M9 _ z2 _ _ _).trans ?_
    sl_unfold_run_names
    simp only [e1, e3, e2, e9, e10, e11, e12]
    rfl
  isplitl [H10]
  · iexists _; isplitr; swap; (· iexact H10); ipureintro
    refine (read_store M10 _ z2 _ _ _).trans ?_
    sl_unfold_run_names
    simp only [e1, e3, e2, e9, e10, e11, e12]
    rfl
  isplitl [H11]
  · iexists _; isplitr; swap; (· iexact H11); ipureintro
    refine (read_store M11 _ z2 _ _ _).trans ?_
    sl_unfold_run_names
    simp only [e1, e3, e2, e9, e10, e11, e12]
    rfl
  iexists _; isplitr; swap; (· iexact H12); ipureintro
  refine (read_store M12 _ z2 _ _ _).trans ?_
  sl_unfold_run_names
  simp only [e1, e3, e2, e9, e10, e11, e12]
  rfl

/-- The last grid point: as a later one, and the four extremes are stored. -/
theorem runLast (c : Dev nD) (i : grid0.Coords) (hi : ¬ isFirst i) (hl : isLater i) (he : k0_cond5 i = 1#1)
    (M1 : Memref sig .tc .smem S2 .f32) (h1 : M1.IsWhole)
    (M2 : Memref sig .tc .vmem S1x96x1x1 .f32) (h2 : M2.IsWhole)
    (M3 : Memref sig .tc .vmem S1x96x128x128 .f32) (h3 : M3.IsWhole)
    (M4 : Memref sig .tc .vmem S1x128x128 .f32) (h4 : M4.IsWhole)
    (M5 : Memref sig .tc .vmem S1x128x128 .f32) (h5 : M5.IsWhole)
    (M6 : Memref sig .tc .vmem S1x8 .f32) (h6 : M6.IsWhole)
    (M7 : Memref sig .tc .vmem S1x96x1x1 .f32) (h7 : M7.IsWhole)
    (M8 : Memref sig .tc .vmem S1x96x1x1 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .f32) (h11 : M11.IsWhole)
    (M12 : Memref sig .tc .vmem S8x128 .f32) (h12 : M12.IsWhole)
    (X1 : FVec F S2 .f32) (X2 : FVec F S1x96x1x1 .f32) (X3 : FVec F S1x96x128x128 .f32)
    (Y4 : FVec F S1x128x128 .f32) (Y5 : FVec F S1x128x128 .f32) (Y7 : FVec F S1x96x1x1 .f32) (Y8 : FVec F S1x96x1x1 .f32) (Y9 : FVec F S8x128 .f32) (Y10 : FVec F S8x128 .f32) (Y11 : FVec F S8x128 .f32) (Y12 : FVec F S8x128 .f32) (Y6 : FVec F S1x8 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare Y4
        ∗ owns (c : Thread nD τ) M5 fullShare Y5
        ∗ owns (c : Thread nD τ) M7 fullShare Y7
        ∗ owns (c : Thread nD τ) M8 fullShare Y8
        ∗ owns (c : Thread nD τ) M9 fullShare Y9
        ∗ owns (c : Thread nD τ) M10 fullShare Y10
        ∗ owns (c : Thread nD τ) M11 fullShare Y11
        ∗ owns (c : Thread nD τ) M12 fullShare Y12
        ∗ owns (c : Thread nD τ) M6 fullShare Y6
        ∗ (iprop(owns (c : Thread nD τ) M1 fullShare X1 ∗ owns (c : Thread nD τ) M2 fullShare X2 ∗ owns (c : Thread nD τ) M3 fullShare X3
            ∗ owns (c : Thread nD τ) M4 fullShare (aB X3 X2 (thW X1))
            ∗ owns (c : Thread nD τ) M5 fullShare (dB X3 X2 (thW X1))
            ∗ owns (c : Thread nD τ) M7 fullShare (fgB X3 X2 (thW X1))
            ∗ owns (c : Thread nD τ) M8 fullShare (bgB X3 X2 (thW X1))
            ∗ owns (c : Thread nD τ) M9 fullShare (k0_pay5 (aMin X3 X2 (thW X1)) Y9)
            ∗ owns (c : Thread nD τ) M10 fullShare (k0_pay6 (aMax X3 X2 (thW X1)) Y10)
            ∗ owns (c : Thread nD τ) M11 fullShare (k0_pay7 (dMin X3 X2 (thW X1)) Y11)
            ∗ owns (c : Thread nD τ) M12 fullShare (k0_pay8 (dMax X3 X2 (thW X1)) Y12)
            ∗ owns (c : Thread nD τ) M6 fullShare (k0_pay9 (k0_pay5 (aMin X3 X2 (thW X1)) Y9) (k0_pay6 (aMax X3 X2 (thW X1)) Y10) (k0_pay7 (dMin X3 X2 (thW X1)) Y11) (k0_pay8 (dMax X3 X2 (thW X1)) Y12))) -∗ Q ⟨⟩))
      ⊢ wp frame (wpE (defs₀ (F := F)) Variants.none c none) E (cc0__p12_body i M1 h1 M2 h2 M3 h3 M4 h4 M5 h5 M6 h6 M7 h7 M8 h8 M9 h9 M10 h10 M11 h11 M12 h12) Q := by
  rw [cc0__p12_body_eq_skeleton]
  unfold cc0__p12_body_skel
  simp only [part12_eq, k0_part10_eq_skeleton, k0_part11_eq_skeleton, k0_part13_eq_skeleton, k0_part14_eq_skeleton, k0_part15_eq_skeleton]
  unfold owns
  iintro ⟨⟨%f1, %hf1, H1⟩, ⟨%f2, %hf2, H2⟩, ⟨%f3, %hf3, H3⟩, ⟨%f4, -, H4⟩, ⟨%f5, -, H5⟩, ⟨%f7, -, H7⟩, ⟨%f8, -, H8⟩, ⟨%f9, %hf9, H9⟩, ⟨%f10, %hf10, H10⟩, ⟨%f11, %hf11, H11⟩, ⟨%f12, %hf12, H12⟩, ⟨%f6, -, H6⟩, Hk⟩
  have e3 := readAt_whole hf3 z4 inb_S1x96x128x128_S1x96x128x128_0_0_0_0
  have e2 := readAt_whole hf2 z4 inb_S1x96x1x1_S1x96x1x1_0_0_0_0
  have e9 := readAt_whole hf9 z2 inb_S8x128_S8x128_0_0
  have e10 := readAt_whole hf10 z2 inb_S8x128_S8x128_0_0
  have e11 := readAt_whole hf11 z2 inb_S8x128_S8x128_0_0
  have e12 := readAt_whole hf12 z2 inb_S8x128_S8x128_0_0
  have e1 := fun h => readAt_th hf1 h
  sl_exec
  sl_step
  iapply Hk
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]
  · iexists _; isplitr; swap; (· iexact H4); ipureintro
    refine (read_store M4 _ z3 _ _ _).trans ?_
    sl_unfold_run_names
    simp only [e1, e3, e2, e9, e10, e11, e12]
    rfl
  isplitl [H5]
  · iexists _; isplitr; swap; (· iexact H5); ipureintro
    refine (read_store M5 _ z3 _ _ _).trans ?_
    sl_unfold_run_names
    simp only [e1, e3, e2, e9, e10, e11, e12]
    rfl
  isplitl [H7]
  · iexists _; isplitr; swap; (· iexact H7); ipureintro
    refine (read_store M7 _ z4 _ _ _).trans ?_
    sl_unfold_run_names
    simp only [e1, e3, e2, e9, e10, e11, e12]
    rfl
  isplitl [H8]
  · iexists _; isplitr; swap; (· iexact H8); ipureintro
    refine (read_store M8 _ z4 _ _ _).trans ?_
    sl_unfold_run_names
    simp only [e1, e3, e2, e9, e10, e11, e12]
    rfl
  isplitl [H9]
  · iexists _; isplitr; swap; (· iexact H9); ipureintro
    refine (read_store M9 _ z2 _ _ _).trans ?_
    sl_unfold_run_names
    simp only [e1, e3, e2, e9, e10, e11, e12]
    rfl
  isplitl [H10]
  · iexists _; isplitr; swap; (· iexact H10); ipureintro
    refine (read_store M10 _ z2 _ _ _).trans ?_
    sl_unfold_run_names
    simp only [e1, e3, e2, e9, e10, e11, e12]
    rfl
  isplitl [H11]
  · iexists _; isplitr; swap; (· iexact H11); ipureintro
    refine (read_store M11 _ z2 _ _ _).trans ?_
    sl_unfold_run_names
    simp only [e1, e3, e2, e9, e10, e11, e12]
    rfl
  isplitl [H12]
  · iexists _; isplitr; swap; (· iexact H12); ipureintro
    refine (read_store M12 _ z2 _ _ _).trans ?_
    sl_unfold_run_names
    simp only [e1, e3, e2, e9, e10, e11, e12]
    rfl
  iexists _; isplitr; swap; (· iexact H6); ipureintro
  refine (read_store M6 _ z2 _ _ _).trans ?_
  sl_unfold_run_names
  refine congr (congr (congr (congrArg k0_pay9 ((readCov8 M9 _).trans ?_)) ((readCov8 M10 _).trans ?_)) ((readCov8 M11 _).trans ?_)) ((readCov8 M12 _).trans ?_) <;>
  · simp only [e1, e3, e2, e9, e10, e11, e12]
    rfl

end Cert.KernelIdeal.Body
end
-- ==== Proof.I.Body1.lean ====
module

public import proofs.«01_k».proof.Proof.I.Body0

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What one grid point of the second call stores: the query block `x` scaled by the two normalised maps, with the
    four extremes read from `mm`. -/
def outB (mm : FVec F S8 .f32) (x : FVec F S1x96x128x128 .f32) (a d : FVec F S1x128x128 .f32) : FVec F S1x96x128x128 .f32 :=
  k1_pay1 x a d (mm (ix1 0)) (mm (ix1 1)) (mm (ix1 0)) (mm (ix1 2)) (mm (ix1 3)) (mm (ix1 2))

omit [FloatOps F] in
/-- The load of one word of the extremes. -/
theorem readAt_mm {M : Memref sig .tc .smem S8 .f32} {f : M.view.ty.Contents (Elt F)} {X : FVec F S8 .f32}
    (hf : M.view.read (Elt F) f = X) (k : Fin 8) (off : Fin 1 → ℕ) (ho : off = ![k.val]) (inb : ∀ a, off a + S1.size a ≤ S8.size a) (h : 0 < S1.numel) :
    M.view.readAt (Elt F) (Rect.unit (s := S8) off S1.size inb).toLoadRect f (Shape.Idx.first h) = X (ix1 k) := by
  subst hf ho
  show M.view.read (Elt F) f _ = M.view.read (Elt F) f _
  congr 1
  funext a
  fin_cases a
  apply Fin.ext
  show k.val + 1 * _ = k.val
  simp

/-- A grid point of the second call. -/
theorem runOut (c : Dev nD) (i : grid1.Coords)
    (M1 : Memref sig .tc .smem S8 .f32) (h1 : M1.IsWhole) (M2 : Memref sig .tc .vmem S1x96x128x128 .f32) (h2 : M2.IsWhole)
    (M3 : Memref sig .tc .vmem S1x128x128 .f32) (h3 : M3.IsWhole) (M4 : Memref sig .tc .vmem S1x128x128 .f32) (h4 : M4.IsWhole)
    (M5 : Memref sig .tc .vmem S1x96x128x128 .f32) (h5 : M5.IsWhole)
    (X1 : FVec F S8 .f32) (X2 : FVec F S1x96x128x128 .f32) (X3 X4 : FVec F S1x128x128 .f32) (Y5 : FVec F S1x96x128x128 .f32)
    (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare Y5
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare (outB X1 X2 X3 X4)) -∗ Q ⟨⟩))
      ⊢ wp frame (wpE (defs₀ (F := F)) Variants.none c none) E (cc1__p3_body i M1 h1 M2 h2 M3 h3 M4 h4 M5 h5) Q := by
  rw [cc1__p3_body_eq_skeleton]
  unfold cc1__p3_body_skel owns
  iintro ⟨⟨%f1, %hf1, H1⟩, ⟨%f2, %hf2, H2⟩, ⟨%f3, %hf3, H3⟩, ⟨%f4, %hf4, H4⟩, ⟨%f5, -, H5⟩, Hk⟩
  have e2 := readAt_whole hf2 z4 inb_S1x96x128x128_S1x96x128x128_0_0_0_0
  have e3 := readAt_whole hf3 z3 inb_S1x128x128_S1x128x128_0_0_0
  have e4 := readAt_whole hf4 z3 inb_S1x128x128_S1x128x128_0_0_0
  have m0 := readAt_mm hf1 0 _ rfl inb_S8_S1_0
  have m1 := readAt_mm hf1 1 _ rfl inb_S8_S1_1
  have m2 := readAt_mm hf1 2 _ rfl inb_S8_S1_2
  have m3 := readAt_mm hf1 3 _ rfl inb_S8_S1_3
  sl_exec
  sl_step
  iapply Hk
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists _; isplitr; swap; (· iexact H5); ipureintro
  refine (read_store M5 _ z4 _ _ _).trans ?_
  sl_unfold_run_names
  simp only [e2, e3, e4]
  exact congr (congr (congr (congr (congr (congrArg (k1_pay1 X2 X3 X4) (m0 _)) (m1 _)) (m0 _)) (m2 _)) (m3 _)) (m2 _)

end Cert.KernelIdeal.Body
end
-- ==== Proof.I.Region0.lean ====
module

public import proofs.«01_k».proof.Proof.I.Body1

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The first call: which grid point is which -/

theorem isFirst_iff : ∀ t : Fin cfg0.N, isFirst (grid0.coords t) ↔ t.val = 0 := by decide +kernel
theorem isLater_iff : ∀ t : Fin cfg0.N, isLater (grid0.coords t) ↔ t.val ≠ 0 := by decide +kernel
theorem isLast_iff : ∀ t : Fin cfg0.N, k0_cond5 (grid0.coords t) = 1#1 ↔ t.val = 7 := by decide +kernel
theorem idle5 : ∀ t : Fin cfg0.N, t.val ≠ 7 → cfg0.idle 5 (grid0.coords t) = true := by decide +kernel
theorem live5 : ∀ t : Fin cfg0.N, t.val = 7 → cfg0.idle 5 (grid0.coords t) = false := by decide +kernel
theorem noflush5 : ∀ t : Fin cfg0.N, t.val ≠ 7 → (cfg0.win 5).flush t = false := by decide +kernel

variable (V : Dev nD → Valuation τ sig (Elt F)) (c : Dev nD)

/-- The threshold words, the channel weights and the query block at grid point `t`. -/
abbrev thA (t : Fin cfg0.N) : FVec F S2 .f32 :=
  ((cfg0.win 0).blk t).view.read (Elt F) (V c (Proc.devRef .tc (Pipeline.arrRef spec0 0)))
abbrev wA (t : Fin cfg0.N) : FVec F S1x96x1x1 .f32 :=
  ((cfg0.win 1).blk t).view.read (Elt F) (V c (Proc.devRef .tc (Pipeline.arrRef spec0 1)))
abbrev xA (t : Fin cfg0.N) : FVec F S1x96x128x128 .f32 :=
  ((cfg0.win 2).blk t).view.read (Elt F) (V c (Proc.devRef .tc (Pipeline.arrRef spec0 2)))

/-- The `n`th grid point. -/
abbrev pnt (n : ℕ) : Fin cfg0.N := ⟨n % 8, Nat.mod_lt n (by decide)⟩

/-- The four running extremes after `n` grid points. -/
def sMin : ℕ → FVec F S8x128 .f32
  | 0 => fun _ => thW (thA V c (pnt 0))
  | n + 1 => if n = 0 then k0_pay1 (aMin (xA V c (pnt n)) (wA V c (pnt n)) (thW (thA V c (pnt n))))
      else k0_pay5 (aMin (xA V c (pnt n)) (wA V c (pnt n)) (thW (thA V c (pnt n)))) (sMin n)
def sMax : ℕ → FVec F S8x128 .f32
  | 0 => fun _ => thW (thA V c (pnt 0))
  | n + 1 => if n = 0 then k0_pay2 (aMax (xA V c (pnt n)) (wA V c (pnt n)) (thW (thA V c (pnt n))))
      else k0_pay6 (aMax (xA V c (pnt n)) (wA V c (pnt n)) (thW (thA V c (pnt n)))) (sMax n)
def tMin : ℕ → FVec F S8x128 .f32
  | 0 => fun _ => thW (thA V c (pnt 0))
  | n + 1 => if n = 0 then k0_pay3 (dMin (xA V c (pnt n)) (wA V c (pnt n)) (thW (thA V c (pnt n))))
      else k0_pay7 (dMin (xA V c (pnt n)) (wA V c (pnt n)) (thW (thA V c (pnt n)))) (tMin n)
def tMax : ℕ → FVec F S8x128 .f32
  | 0 => fun _ => thW (thA V c (pnt 0))
  | n + 1 => if n = 0 then k0_pay4 (dMax (xA V c (pnt n)) (wA V c (pnt n)) (thW (thA V c (pnt n))))
      else k0_pay8 (dMax (xA V c (pnt n)) (wA V c (pnt n)) (thW (thA V c (pnt n)))) (tMax n)

theorem pnt_val (t : Fin cfg0.N) : pnt t.val = t := Fin.ext (Nat.mod_eq_of_lt t.isLt)

/-- The scoped buffers of the second call, each held at something. -/
abbrev someAt (r : Ref sig .tc) : sProp 𝕄 :=
  iprop(∃ f : Buf (Elt F) ((c : Thread nD τ).loc r), ((c : Thread nD τ).loc r) ↦{fullShare} f)
def rest0 : sProp 𝕄 :=
  iprop(someAt c cc1_stg1_0 ∗ someAt c cc1_stg1_1 ∗ someAt c cc1_stg2_0 ∗ someAt c cc1_stg2_1 ∗ someAt c cc1_stg3_0
    ∗ someAt c cc1_stg3_1 ∗ someAt c cc1_stg4_0 ∗ someAt c cc1_stg4_1 ∗ someAt c cc1_stg0_0)

/-- The state carried between grid points: after the first one the four scratch buffers hold the running extremes. -/
def carry (n : ℕ) : sProp 𝕄 :=
  iprop(∃ f9 f10 f11 f12 : FVec F S8x128 .f32,
    ⌜n ≠ 0 → f9 = sMin V c n ∧ f10 = sMax V c n ∧ f11 = tMin V c n ∧ f12 = tMax V c n⌝
    ∗ owns (c : Thread nD τ) (Memref.whole cc0_scratch0) fullShare f9
    ∗ owns (c : Thread nD τ) (Memref.whole cc0_scratch1) fullShare f10
    ∗ owns (c : Thread nD τ) (Memref.whole cc0_scratch2) fullShare f11
    ∗ owns (c : Thread nD τ) (Memref.whole cc0_scratch3) fullShare f12
    ∗ rest0 c)

/-- The proof data of the first call, entered with the arrays at `V`. -/
def dat0 : Dat τ (Elt F) Unit ℕ UU ℕ cfg0 c where
  A w := V c (Proc.devRef .tc (Pipeline.arrRef spec0 w))
  after w t := match w with
    | ⟨0, _⟩ => thA V c t
    | ⟨1, _⟩ => wA V c t
    | ⟨2, _⟩ => xA V c t
    | ⟨3, _⟩ => aB (xA V c t) (wA V c t) (thW (thA V c t))
    | ⟨4, _⟩ => dB (xA V c t) (wA V c t) (thW (thA V c t))
    | ⟨5, _⟩ => k0_pay9 (sMin V c 8) (sMax V c 8) (tMin V c 8) (tMax V c 8)
    | ⟨6, _⟩ => fgB (xA V c t) (wA V c t) (thW (thA V c t))
    | ⟨7, _⟩ => bgB (xA V c t) (wA V c t) (thW (thA V c t))
  Φ t := carry V c t.val
  q _ := fullShare
  owed _ := 0

/-- What the body finds in an input window is its block. -/
theorem before0_0 (t : Fin cfg0.N) (d) : (dat0 V c).before 0 t d = thA V c t :=
  (dat0 V c).before_in_eq_fetched 0 rfl (fun _ => rfl) (fun _ _ _ => rfl) (fun _ => rfl) t d
theorem before0_1 (t : Fin cfg0.N) (d) : (dat0 V c).before 1 t d = wA V c t :=
  (dat0 V c).before_in_eq_fetched 1 rfl (fun _ => rfl) (fun _ _ _ => rfl) (fun _ => rfl) t d
theorem before0_2 (t : Fin cfg0.N) (d) : (dat0 V c).before 2 t d = xA V c t :=
  (dat0 V c).before_in_eq_fetched 2 rfl (fun _ => rfl) (fun _ _ _ => rfl) (fun _ => rfl) t d

/-- The running extremes after the first grid point, and after each later one. -/
theorem scr_first (t : Fin cfg0.N) (h0 : t.val = 0) :
    k0_pay1 (aMin (xA V c t) (wA V c t) (thW (thA V c t))) = sMin V c (t.val + 1)
    ∧ k0_pay2 (aMax (xA V c t) (wA V c t) (thW (thA V c t))) = sMax V c (t.val + 1)
    ∧ k0_pay3 (dMin (xA V c t) (wA V c t) (thW (thA V c t))) = tMin V c (t.val + 1)
    ∧ k0_pay4 (dMax (xA V c t) (wA V c t) (thW (thA V c t))) = tMax V c (t.val + 1) := by
  simp only [sMin, sMax, tMin, tMax, if_pos h0, pnt_val]; exact ⟨trivial, trivial, trivial, trivial⟩

theorem scr_step (t : Fin cfg0.N) (h0 : t.val ≠ 0) :
    k0_pay5 (aMin (xA V c t) (wA V c t) (thW (thA V c t))) (sMin V c t.val) = sMin V c (t.val + 1)
    ∧ k0_pay6 (aMax (xA V c t) (wA V c t) (thW (thA V c t))) (sMax V c t.val) = sMax V c (t.val + 1)
    ∧ k0_pay7 (dMin (xA V c t) (wA V c t) (thW (thA V c t))) (tMin V c t.val) = tMin V c (t.val + 1)
    ∧ k0_pay8 (dMax (xA V c t) (wA V c t) (thW (thA V c t))) (tMax V c t.val) = tMax V c (t.val + 1) := by
  simp only [sMin, sMax, tMin, tMax, if_neg h0, pnt_val]; exact ⟨trivial, trivial, trivial, trivial⟩

/-- The obligation of the body at grid point `t`, as the pipeline library states it. -/
def Obl (t : Fin cfg0.N) : Prop :=
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (defs₀ .tc cfg0.body (cfg0.bodyArgs t (cfg0.slots t))) fun _ =>
          iprop((dat0 V c).Φ t.succ ∗ (dat0 V c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dat0 V c).before w t d))
                    | true => owns (c : Thread nD τ) ((cfg0.win w).stage (cfg0.slots t w)) fullShare ((dat0 V c).after w t)
                  | false => owns (c : Thread nD τ) ((cfg0.win w).stage (cfg0.slots t w)) fullShare ((dat0 V c).after w t))

set_option backward.isDefEq.respectTransparency.types false in
/-- The body at the first grid point. -/
theorem oblFirst (t : Fin cfg0.N) (h0 : t.val = 0) (h7 : t.val ≠ 7) : Obl V c t := by
  unfold Obl
  rw [bigSep_W0, bigSep_W0]
  rw [show (dat0 V c).Φ t.castSucc = carry V c t.val from rfl, show (dat0 V c).Φ t.succ = carry V c (t.val + 1) from rfl,
    show (dat0 V c).owesAt () t.succ = (dat0 V c).owesAt () t.castSucc from rfl]
  show _ ⊢ wp frame _ _ (bodyAt0 t) _
  unfold carry
  iintro ⟨⟨%f9, %f10, %f11, %f12, %hs, S9, S10, S11, S12, HR⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0_0, before0_1, before0_2]
  rw [idle5 t h7, noflush5 t h7]
  iapply (runFirst c (grid0.coords t) ((isFirst_iff t).mpr h0) (fun h => (isLater_iff t).mp h h0) (fun h => h7 ((isLast_iff t).mp h)) (M1 := st0_0 t) (M2 := st0_1 t) (M3 := st0_2 t) (M4 := st0_3 t) (M5 := st0_4 t) (M6 := st0_5 t) (M7 := st0_6 t) (M8 := st0_7 t)
    (M9 := Memref.whole cc0_scratch0) (M10 := Memref.whole cc0_scratch1) (M11 := Memref.whole cc0_scratch2) (M12 := Memref.whole cc0_scratch3))
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [S9]; · iexact S9
  isplitl [S10]; · iexact S10
  isplitl [S11]; · iexact S11
  isplitl [S12]; · iexact S12
  iintro ⟨H0, H1, H2, H3, H4, H6, H7, S9, S10, S11, S12⟩
  isplitl [S9 S10 S11 S12 HR]
  · iexists _, _, _, _
    isplitr; swap
    · isplitl [S9]; · iexact S9
      isplitl [S10]; · iexact S10
      isplitl [S11]; · iexact S11
      isplitl [S12]; · iexact S12
      iexact HR
    ipureintro
    exact fun _ => scr_first V c t h0
  isplitl [Howes]; · iexact Howes
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  iexact H7

set_option backward.isDefEq.respectTransparency.types false in
/-- The body at a grid point between. -/
theorem oblMid (t : Fin cfg0.N) (h0 : t.val ≠ 0) (h7 : t.val ≠ 7) : Obl V c t := by
  unfold Obl
  rw [bigSep_W0, bigSep_W0]
  rw [show (dat0 V c).Φ t.castSucc = carry V c t.val from rfl, show (dat0 V c).Φ t.succ = carry V c (t.val + 1) from rfl,
    show (dat0 V c).owesAt () t.succ = (dat0 V c).owesAt () t.castSucc from rfl]
  show _ ⊢ wp frame _ _ (bodyAt0 t) _
  unfold carry
  iintro ⟨⟨%f9, %f10, %f11, %f12, %hs, S9, S10, S11, S12, HR⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0_0, before0_1, before0_2]
  rw [idle5 t h7, noflush5 t h7]
  iapply (runMid c (grid0.coords t) (fun h => h0 ((isFirst_iff t).mp h)) ((isLater_iff t).mpr h0) (fun h => h7 ((isLast_iff t).mp h)) (M1 := st0_0 t) (M2 := st0_1 t) (M3 := st0_2 t) (M4 := st0_3 t) (M5 := st0_4 t) (M6 := st0_5 t) (M7 := st0_6 t) (M8 := st0_7 t)
    (M9 := Memref.whole cc0_scratch0) (M10 := Memref.whole cc0_scratch1) (M11 := Memref.whole cc0_scratch2) (M12 := Memref.whole cc0_scratch3))
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [S9]; · iexact S9
  isplitl [S10]; · iexact S10
  isplitl [S11]; · iexact S11
  isplitl [S12]; · iexact S12
  iintro ⟨H0, H1, H2, H3, H4, H6, H7, S9, S10, S11, S12⟩
  isplitl [S9 S10 S11 S12 HR]
  · iexists _, _, _, _
    isplitr; swap
    · isplitl [S9]; · iexact S9
      isplitl [S10]; · iexact S10
      isplitl [S11]; · iexact S11
      isplitl [S12]; · iexact S12
      iexact HR
    ipureintro
    obtain ⟨rfl, rfl, rfl, rfl⟩ := hs h0
    exact fun _ => scr_step V c t h0
  isplitl [Howes]; · iexact Howes
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  iexact H7

set_option backward.isDefEq.respectTransparency.types false in
/-- The body at the last grid point. -/
theorem oblLast (t : Fin cfg0.N) (h0 : t.val ≠ 0) (h7 : t.val = 7) : Obl V c t := by
  unfold Obl
  rw [bigSep_W0, bigSep_W0]
  rw [show (dat0 V c).Φ t.castSucc = carry V c t.val from rfl, show (dat0 V c).Φ t.succ = carry V c (t.val + 1) from rfl,
    show (dat0 V c).owesAt () t.succ = (dat0 V c).owesAt () t.castSucc from rfl]
  show _ ⊢ wp frame _ _ (bodyAt0 t) _
  unfold carry
  iintro ⟨⟨%f9, %f10, %f11, %f12, %hs, S9, S10, S11, S12, HR⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0_0, before0_1, before0_2]
  rw [live5 t h7]
  obtain ⟨rfl, rfl, rfl, rfl⟩ := hs h0
  obtain ⟨q9, q10, q11, q12⟩ := scr_step V c t h0
  iapply (runLast c (grid0.coords t) (fun h => h0 ((isFirst_iff t).mp h)) ((isLater_iff t).mpr h0) ((isLast_iff t).mpr h7) (M1 := st0_0 t) (M2 := st0_1 t) (M3 := st0_2 t) (M4 := st0_3 t) (M5 := st0_4 t) (M6 := st0_5 t) (M7 := st0_6 t) (M8 := st0_7 t)
    (M9 := Memref.whole cc0_scratch0) (M10 := Memref.whole cc0_scratch1) (M11 := Memref.whole cc0_scratch2) (M12 := Memref.whole cc0_scratch3))
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [S9]; · iexact S9
  isplitl [S10]; · iexact S10
  isplitl [S11]; · iexact S11
  isplitl [S12]; · iexact S12
  isplitl [H5]; · iexact H5
  rw [q9, q10, q11, q12]
  iintro ⟨H0, H1, H2, H3, H4, H6, H7, S9, S10, S11, S12, H5⟩
  isplitl [S9 S10 S11 S12 HR]
  · iexists _, _, _, _
    isplitr; swap
    · isplitl [S9]; · iexact S9
      isplitl [S10]; · iexact S10
      isplitl [S11]; · iexact S11
      isplitl [S12]; · iexact S12
      iexact HR
    ipureintro
    exact fun _ => ⟨rfl, rfl, rfl, rfl⟩
  isplitl [Howes]; · iexact Howes
  isplitl [H0]; · iexact H0
  isplitl [H1]; · iexact H1
  isplitl [H2]; · iexact H2
  isplitl [H3]; · iexact H3
  isplitl [H4]; · iexact H4
  isplitl [H5]
  · rw [show (dat0 V c).after 5 t = k0_pay9 (sMin V c (t.val + 1)) (sMax V c (t.val + 1)) (tMin V c (t.val + 1)) (tMax V c (t.val + 1)) from by rw [h7]; rfl]
    iexact H5
  isplitl [H6]; · iexact H6
  iexact H7

/-- The body's obligation of the first call. -/
theorem body0 : BodyObligation (dat0 V c) (defs₀ (F := F)) Variants.none () Set.univ := fun t => by
  by_cases h0 : t.val = 0
  · exact oblFirst V c t h0 (by omega)
  · by_cases h7 : t.val = 7
    · exact oblLast V c t h0 h7
    · exact oblMid V c t h0 h7

/-- The carried state before the first grid point and after the last. -/
theorem carry_in : (Pipeline.scopedRest (Ix := Unit) (Name := ℕ) (U := UU) (Lvl := ℕ) (Val := Elt F) spec0 c : sProp 𝕄) ⊢ carry V c 0 := by
  rw [scopedRest0_eq]
  unfold carry
  simp only [owns_whole_eq]
  iintro ⟨⟨%g0, G0⟩, ⟨%g1, G1⟩, ⟨%g2, G2⟩, ⟨%g3, G3⟩, HR⟩
  iexists g0, g1, g2, g3
  isplitr; · ipureintro; exact fun h => absurd rfl h
  isplitl [G0]; · iexists g0; isplitr; · ipureintro; rfl
                  iexact G0
  isplitl [G1]; · iexists g1; isplitr; · ipureintro; rfl
                  iexact G1
  isplitl [G2]; · iexists g2; isplitr; · ipureintro; rfl
                  iexact G2
  isplitl [G3]; · iexists g3; isplitr; · ipureintro; rfl
                  iexact G3
  unfold rest0
  iexact HR

theorem carry_out (n : ℕ) : carry V c n ⊢ (Pipeline.scopedRest (Ix := Unit) (Name := ℕ) (U := UU) (Lvl := ℕ) (Val := Elt F) spec0 c : sProp 𝕄) := by
  rw [scopedRest0_eq]
  unfold carry rest0
  simp only [owns_whole_eq]
  iintro ⟨%f9, %f10, %f11, %f12, -, ⟨%g0, -, G0⟩, ⟨%g1, -, G1⟩, ⟨%g2, -, G2⟩, ⟨%g3, -, G3⟩, HR⟩
  isplitl [G0]; · iexists g0; iexact G0
  isplitl [G1]; · iexists g1; iexact G1
  isplitl [G2]; · iexists g2; iexact G2
  isplitl [G3]; · iexists g3; iexact G3
  iexact HR

end Cert.KernelIdeal.Body
end
-- ==== Proof.I.Region1.lean ====
module

public import proofs.«01_k».proof.Proof.I.Region0

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (V : Dev nD → Valuation τ sig (Elt F)) (c : Dev nD)

/-- The four extremes, the query block and the two map blocks at grid point `t` of the second call. -/
abbrev mmC (t : Fin cfg1.N) : FVec F S8 .f32 :=
  ((cfg1.win 0).blk t).view.read (Elt F) (V c (Proc.devRef .tc (Pipeline.arrRef spec1 0)))
abbrev xC (t : Fin cfg1.N) : FVec F S1x96x128x128 .f32 :=
  ((cfg1.win 1).blk t).view.read (Elt F) (V c (Proc.devRef .tc (Pipeline.arrRef spec1 1)))
abbrev aC (t : Fin cfg1.N) : FVec F S1x128x128 .f32 :=
  ((cfg1.win 2).blk t).view.read (Elt F) (V c (Proc.devRef .tc (Pipeline.arrRef spec1 2)))
abbrev dC (t : Fin cfg1.N) : FVec F S1x128x128 .f32 :=
  ((cfg1.win 3).blk t).view.read (Elt F) (V c (Proc.devRef .tc (Pipeline.arrRef spec1 3)))

/-- The proof data of the second call, entered with the arrays at `V`. -/
def dat1 : Dat τ (Elt F) Unit ℕ UU ℕ cfg1 c where
  A w := V c (Proc.devRef .tc (Pipeline.arrRef spec1 w))
  after w t := match w with
    | ⟨0, _⟩ => mmC V c t
    | ⟨1, _⟩ => xC V c t
    | ⟨2, _⟩ => aC V c t
    | ⟨3, _⟩ => dC V c t
    | ⟨4, _⟩ => outB (mmC V c t) (xC V c t) (aC V c t) (dC V c t)
  Φ _ := Pipeline.scopedRest (Ix := Unit) (Name := ℕ) (U := UU) (Lvl := ℕ) (Val := Elt F) spec1 c
  q _ := fullShare
  owed _ := 0

/-- What the body finds in an input window is its block. -/
theorem before1_0 (t : Fin cfg1.N) (d) : (dat1 V c).before 0 t d = mmC V c t :=
  (dat1 V c).before_in_eq_fetched 0 rfl (fun _ => rfl) (fun _ _ _ => rfl) (fun _ => rfl) t d
theorem before1_1 (t : Fin cfg1.N) (d) : (dat1 V c).before 1 t d = xC V c t :=
  (dat1 V c).before_in_eq_fetched 1 rfl (fun _ => rfl) (fun _ _ _ => rfl) (fun _ => rfl) t d
theorem before1_2 (t : Fin cfg1.N) (d) : (dat1 V c).before 2 t d = aC V c t :=
  (dat1 V c).before_in_eq_fetched 2 rfl (fun _ => rfl) (fun _ _ _ => rfl) (fun _ => rfl) t d
theorem before1_3 (t : Fin cfg1.N) (d) : (dat1 V c).before 3 t d = dC V c t :=
  (dat1 V c).before_in_eq_fetched 3 rfl (fun _ => rfl) (fun _ _ _ => rfl) (fun _ => rfl) t d

set_option backward.isDefEq.respectTransparency.types false in
/-- The body's obligation of the second call. -/
theorem body1 : BodyObligation (dat1 V c) (defs₀ (F := F)) Variants.none () Set.univ := fun t => by
  rw [bigSep_W1, bigSep_W1]
  rw [show (dat1 V c).Φ t.castSucc = (dat1 V c).Φ t.succ from rfl,
    show (dat1 V c).owesAt () t.succ = (dat1 V c).owesAt () t.castSucc from rfl]
  show _ ⊢ wp frame _ _ (bodyAt1 t) _
  iintro ⟨HR, Howes, ⟨%d0, H0⟩, ⟨%d1, H1⟩, ⟨%d2, H2⟩, ⟨%d3, H3⟩, ⟨%d4, H4⟩⟩
  rw [before1_0, before1_1, before1_2, before1_3]
  iapply (runOut c (grid1.coords t) (M1 := st1_0 t) (M2 := st1_1 t) (M3 := st1_2 t) (M4 := st1_3 t) (M5 := st1_4 t))
  isplitl [H0]; · iexact H0
  isplitl [H1]; · iexact H1
  isplitl [H2]; · iexact H2
  isplitl [H3]; · iexact H3
  isplitl [H4]; · iexact H4
  iintro ⟨H0, H1, H2, H3, H4⟩
  isplitl [HR]; · iexact HR
  isplitl [Howes]; · iexact Howes
  isplitl [H0]; · iexact H0
  isplitl [H1]; · iexact H1
  isplitl [H2]; · iexact H2
  isplitl [H3]; · iexact H3
  iexact H4

end Cert.KernelIdeal.Body
end
-- ==== Proof.I.Run.lean ====
module

public import proofs.«01_k».proof.Proof.I.Region1
public import proofs.«01_k».proof.Proof.Gen.KernelIdeal.Regions

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (m : (ℓ : Loc nD τ sig) → Buf (Elt F) ℓ)

/-! ## The buffers between the segments -/

/-- The buffers when the first call starts, when it ends, when the second starts, and at the end. -/
def W1 (c : Dev nD) : Valuation τ sig (Elt F) := V1 m c
def W2 (c : Dev nD) : Valuation τ sig (Elt F) := Pipeline.afterRegion (dat0 (W1 m) c) (W1 m c)
def W3 (c : Dev nD) : Valuation τ sig (Elt F) := StableHlo.after hostOps1 (W2 m c)
def W4 (c : Dev nD) : Valuation τ sig (Elt F) := Pipeline.afterRegion (dat1 (W3 m) c) (W3 m c)

/-- The proof data of both calls. -/
def pdats : (p : Fin 2) → (c : Dev nD) → Dat τ (Elt F) Unit ℕ UU ℕ (Pipeline.pin (pcfgs (F := F)) adm p) c
  | ⟨0, _⟩ => fun c => dat0 (W1 m) c
  | ⟨1, _⟩ => fun c => dat1 (W3 m) c

/-- Every cell of a TensorCore is at level zero; no core owes another anything. -/
def lvls : GSem nD τ sig → Finset Unit := fun g => if g.1.2 = .tc then {()} else ∅
abbrev lv0 : GSem nD τ sig → Unit → ℕ := fun _ _ => 0
abbrev owe0 : Dev nD → CellTallies nD τ sig Unit := fun _ => 0

theorem cut (p : Fin 2) : Pipeline.LevelCut (pcfgs (F := F)) adm () lvls lv0 p owe0 (fun _ => 0) where
  hι c w s := by unfold lvls; rw [if_pos rfl]; exact Finset.mem_singleton.mpr rfl
  hιb c w s := le_rfl
  hD c g i h := absurd h (lt_irrefl _)

set_option backward.isDefEq.respectTransparency.types false in
/-- The first call as a segment: entered with every buffer at `W1`. -/
def reg0 : RegionSeg (pcfgs (F := F)) adm (pdats m) () defs₀ Variants.none lvls lv0 0 :=
  RegionSeg.ofHeldIn (pcfgs (F := F)) adm (pdats m) () defs₀ Variants.none lvls lv0 0 owe0 (Pipeline.ucRefs τ sig) (fun _ => iprop(emp)) (fun _ => iprop(emp))
    launch0.toP rfl (fun c => (body0 (W1 m) c).loose) (fun _ _ => rfl) (fun _ => rfl) (fun c => (dat0 (W1 m) c).share_full fun _ => rfl)
    (fun c => by
      show iprop(Pipeline.scopedRest spec0 c ∗ emp) ⊢ carry (W1 m) c 0
      iintro ⟨H, -⟩
      iapply (carry_in (W1 m) c)
      iexact H)
    (fun c => by
      show carry (W1 m) c _ ⊢ iprop(Pipeline.scopedRest spec0 c ∗ emp)
      iintro H
      isplitl; swap; · iempintro
      iapply (carry_out (W1 m) c)
      iexact H)
    (fun _ => 0) (cut 0) (fun _ => iprop(emp)) (W1 m) (fun c w => rfl)

set_option backward.isDefEq.respectTransparency.types false in
/-- The second call as a segment: entered with every buffer at `W3`. -/
def reg1 : RegionSeg (pcfgs (F := F)) adm (pdats m) () defs₀ Variants.none lvls lv0 1 :=
  RegionSeg.ofHeldIn (pcfgs (F := F)) adm (pdats m) () defs₀ Variants.none lvls lv0 1 owe0 (Pipeline.ucRefs τ sig) (fun _ => iprop(emp)) (fun _ => iprop(emp))
    launch1.toP rfl (fun c => (body1 (W3 m) c).loose) (fun _ _ => rfl) (fun _ => rfl) (fun c => (dat1 (W3 m) c).share_full fun _ => rfl)
    (fun c => by
      show iprop(Pipeline.scopedRest spec1 c ∗ emp) ⊢ Pipeline.scopedRest spec1 c
      iintro ⟨H, -⟩
      iexact H)
    (fun c => by
      show Pipeline.scopedRest spec1 c ⊢ iprop(Pipeline.scopedRest spec1 c ∗ emp)
      iintro H
      isplitl; swap; · iempintro
      iexact H)
    (fun _ => 0) (cut 1) (fun _ => iprop(emp)) (W3 m) (fun c w => rfl)

/-- What rides along beside the buffers. -/
abbrev ride (c : Dev nD) : sProp 𝕄 := iprop((∃ Wd, owes (c : Thread nD τ) (0 : CellTallies nD τ sig Unit) Wd) ∗ emp ∗ emp)

/-- The host operations before the first call and between the two. -/
def host0 : HostSeg (Ix := Unit) (Name := ℕ) (U := UU) (Lvl := ℕ) (pcfgs (F := F)) defs₀ Variants.none lvls lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) ride
def host1 : HostSeg (Ix := Unit) (Name := ℕ) (U := UU) (Lvl := ℕ) (pcfgs (F := F)) defs₀ Variants.none lvls lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) ride

/-- The whole program: host operations, first call, a reshape, second call. -/
def prog : List (Seg (pcfgs (F := F)) adm (pdats m) () defs₀ Variants.none lvls lv0) :=
  [.host (host0 m), .region (reg0 m), .host (host1 m), .region (reg1 m)]

theorem arr0_sub : Pipeline.arrRefs spec0 ⊆ Pipeline.ucRefs τ sig := by decide
theorem arr1_sub : Pipeline.arrRefs spec1 ⊆ Pipeline.ucRefs τ sig := by decide

theorem pre0 (c : Dev nD) : iprop(StableHlo.held (c : Thread nD τ) (Pipeline.ucRefs τ sig) (W1 m c) ∗ ride c) ⊢ (reg0 m).pre c :=
  by
  unfold reg0
  exact RegionSeg.ofHeldIn_pre (pcs := pcfgs (F := F)) (a := adm) (pdats := pdats m) (ι := ()) (defs₀ := defs₀) (𝒱₀ := Variants.none) (L := lvls) (lv := lv0)
    (p := 0) (D := owe0) (S := Pipeline.ucRefs τ sig) (hS := arr0_sub) (X := fun _ => iprop(emp)) (Y := fun _ => iprop(emp))
    (R := fun _ => iprop(emp)) (W := W1 m) (c := c)
theorem post0 (c : Dev nD) : (reg0 m).post c ⊢ iprop(StableHlo.held (c : Thread nD τ) (Pipeline.ucRefs τ sig) (W2 m c) ∗ ride c) :=
  by
  rw [show W2 m c = Pipeline.afterRegion (pdats m 0 c) (W1 m c) from rfl]
  unfold reg0
  exact RegionSeg.ofHeldIn_post (pcs := pcfgs (F := F)) (a := adm) (pdats := pdats m) (ι := ()) (defs₀ := defs₀) (𝒱₀ := Variants.none) (L := lvls) (lv := lv0)
    (p := 0) (D := owe0) (S := Pipeline.ucRefs τ sig) (hS := arr0_sub) (X := fun _ => iprop(emp)) (Y := fun _ => iprop(emp))
    (R := fun _ => iprop(emp)) (W := W1 m) (c := c)
theorem pre1 (c : Dev nD) : iprop(StableHlo.held (c : Thread nD τ) (Pipeline.ucRefs τ sig) (W3 m c) ∗ ride c) ⊢ (reg1 m).pre c :=
  by
  unfold reg1
  exact RegionSeg.ofHeldIn_pre (pcs := pcfgs (F := F)) (a := adm) (pdats := pdats m) (ι := ()) (defs₀ := defs₀) (𝒱₀ := Variants.none) (L := lvls) (lv := lv0)
    (p := 1) (D := owe0) (S := Pipeline.ucRefs τ sig) (hS := arr1_sub) (X := fun _ => iprop(emp)) (Y := fun _ => iprop(emp))
    (R := fun _ => iprop(emp)) (W := W3 m) (c := c)
theorem post1 (c : Dev nD) : (reg1 m).post c ⊢ iprop(StableHlo.held (c : Thread nD τ) (Pipeline.ucRefs τ sig) (W4 m c) ∗ ride c) :=
  by
  rw [show W4 m c = Pipeline.afterRegion (pdats m 1 c) (W3 m c) from rfl]
  unfold reg1
  exact RegionSeg.ofHeldIn_post (pcs := pcfgs (F := F)) (a := adm) (pdats := pdats m) (ι := ()) (defs₀ := defs₀) (𝒱₀ := Variants.none) (L := lvls) (lv := lv0)
    (p := 1) (D := owe0) (S := Pipeline.ucRefs τ sig) (hS := arr1_sub) (X := fun _ => iprop(emp)) (Y := fun _ => iprop(emp))
    (R := fun _ => iprop(emp)) (W := W3 m) (c := c)

/-- What a core starts with: its buffers as launched. -/
theorem start (ρ : Dev nD → PrngReg) (c : Dev nD) :
    (iprop(unscopedBufs c (fun b => m ((c.tc : Thread nD τ).loc b)) ∗ unscopedSems0 c
      ∗ owes (c.tc : Thread nD τ) (owe0 c) ∅ ∗ Pipeline.launchCred owe0 c ∗ prngReg c (ρ c) ∗ emp) : sProp 𝕄)
      ⊢ iprop(StableHlo.held (c : Thread nD τ) (Pipeline.ucRefs τ sig) (V0 m c) ∗ ride c) := by
  have hb : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UU) (Lvl := ℕ) c (V0 m c)]
  iintro ⟨Hb, -, HO, -, -, -⟩
  isplitl [Hb]; · iapply hb; iexact Hb
  isplitl [HO]; · iexists _; iexact HO
  isplitl; · iempintro
  iempintro

set_option backward.isDefEq.respectTransparency.types false in
/-- The run: from any memory with zero counters every weakly fair execution terminates, with every buffer that is
    not a kernel's own at `W4` and every semaphore counter at zero. -/
theorem run (ρ : Dev nD → PrngReg) :
    θ_run defs (onTc (τ := τ) (main (F := F))) ⟨m, fun _ => 0, ρ⟩ (fun r => (∀ c : Dev nD, ∀ b ∈ Pipeline.ucRefs τ sig, r.2.mem (c, b) = W4 m c b)
      ∧ r.2.sem = fun _ => 0) := by
  refine Pipeline.θ_run_regions_kit_dev_sems (pcfgs (F := F)) adm (pdats m) () cellOf_inj emb₁ defs₀ Variants.none lvls lv0 m ρ main
    (fun _ => prog m)
    (fun c Q => by
      rewrite [main_chain c, Seg.run_eq_chain,
        show (prog m).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [prog, Seg.pipes_host, Seg.pipes_region, Seg.pipes_nil]; decide) owe0 (fun g hg => if_neg hg)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ ride c))
    (Tₙ := fun c => StableHlo.held (c : Thread nD τ) (Pipeline.ucRefs τ sig) (W4 m c))
    (hch := fun c => ⟨.rfl, pre0 m c, post0 m c, pre1 m c, (post1 m c).trans (sep_mono .rfl (by iintro ⟨H, -, -⟩; iexact H))⟩)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · iintro Hu
    imodintro
    isplitl
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (owe0 c) ∅ ∗ Pipeline.launchCred owe0 c ∗ prngReg c (ρ c) ∗ emp))
        ⊢ (bigSep Finset.univ fun c : Dev nD => iprop(StableHlo.held (c : Thread nD τ) (Pipeline.ucRefs τ sig) (V0 m c) ∗ ride c) : sProp 𝕄) :=
      bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr; · ipureintro; exact h
    iexact HSI

end Cert.KernelIdeal.Body
end
-- ==== Proof.I.Frame.lean ====
module

public import proofs.«01_k».proof.Proof.I.Run

@[expose] public section

noncomputable section

namespace Cert.KernelIdeal.Body

open Cert.KernelIdeal Cert.KernelIdeal.Gen

open Idealize.ShloMosaic Idealize.ShloMosaic.TcCoe
open Idealize.SL Idealize.SL.Sem

variable {F : FTy → Type} [FloatOps F]
variable (m : (ℓ : Loc nD τ sig) → Buf (Elt F) ℓ)

/-- A buffer that no host operation writes and that is no output of either call ends as it was launched. -/
theorem W4_kept (c : Dev nD) (r : Ref sig .tc) (h0 : r ∉ hostOps0_W) (h1 : r ∉ hostOps1_W)
    (k0 : ∀ w, Pipeline.arrRef spec0 w = r → (cfg0.win w).isOut = false)
    (k1 : ∀ w, Pipeline.arrRef spec1 w = r → (cfg1.win w).isOut = false) :
    W4 m c r = m ((c : Thread nD τ).loc r) :=
  (Pipeline.afterRegion_keeps (dat1 (W3 m) c) (W3 m c) launch1.win.arr_inj (fun _ => rfl) r k1).trans <|
    (StableHlo.after_of_writes_sub hostOps1 _ hostOps1_writes h1).trans <|
    (Pipeline.afterRegion_keeps (dat0 (W1 m) c) (W1 m c) launch0.win.arr_inj (fun _ => rfl) r k0).trans <|
    (V1_of m c r h0).trans rfl

theorem W4_arg0 (c : Dev nD) : W4 m c main_arg0 = m ((c : Thread nD τ).loc main_arg0) :=
  W4_kept m c main_arg0 (by decide) (by decide) (by decide) (by decide)
theorem W4_arg1 (c : Dev nD) : W4 m c main_arg1 = m ((c : Thread nD τ).loc main_arg1) :=
  W4_kept m c main_arg1 (by decide) (by decide) (by decide) (by decide)
theorem W4_arg2 (c : Dev nD) : W4 m c main_arg2 = m ((c : Thread nD τ).loc main_arg2) :=
  W4_kept m c main_arg2 (by decide) (by decide) (by decide) (by decide)
theorem W4_arg3 (c : Dev nD) : W4 m c main_arg3 = m ((c : Thread nD τ).loc main_arg3) :=
  W4_kept m c main_arg3 (by decide) (by decide) (by decide) (by decide)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The run, read at the results and the arguments. -/
theorem run_at (ρ : Dev nD → PrngReg) :
    θ_run defs (onTc (τ := τ) (main (F := F))) ⟨m, fun _ => 0, ρ⟩ (fun r => (∀ c : Dev nD,
      r.2.mem ((c.tc : Thread nD τ).loc main_v32) = W4 m c main_v32
      ∧ r.2.mem ((c.tc : Thread nD τ).loc main_v30_3) = W4 m c main_v30_3
      ∧ r.2.mem ((c.tc : Thread nD τ).loc main_v30_4) = W4 m c main_v30_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨h.1 c _ (mem_uc main_v32 (by decide)), h.1 c _ (mem_uc main_v30_3 (by decide)), h.1 c _ (mem_uc main_v30_4 (by decide)),
      (h.1 c _ (mem_uc main_arg0 (by decide))).trans (W4_arg0 m c), (h.1 c _ (mem_uc main_arg1 (by decide))).trans (W4_arg1 m c),
      (h.1 c _ (mem_uc main_arg2 (by decide))).trans (W4_arg2 m c), (h.1 c _ (mem_uc main_arg3 (by decide))).trans (W4_arg3 m c)⟩, h.2⟩) (run m ρ)

end Cert.KernelIdeal.Body
end
-- ==== Proof.V.Rounds.lean ====
module

public import proofs.«01_k».proof.Proof.I.Body0

@[expose] public section
set_option maxRecDepth 16384

/-! The twelve rounds of the kernel's fallback, written once.

A round finds the largest of the values still standing, the smallest flat index at which it stands, marks that
position, adds one to its weight and strikes its value out. Each printed piece of the two fallbacks is some number of
these rounds. -/

noncomputable section
namespace Cert.KernelIdeal.Val
open Cert.KernelIdeal Cert.KernelIdeal.Gen Cert.KernelIdeal.Body
open Idealize.ShloMosaic

variable {F : FTy → Type} [FloatOps F]

/-- The value that strikes a position out. -/
def low : FVec F S128x128 .f32 := broadcast S128x128 (Scalar.ofBits .f32 0xFF800000#32 : F .f32)

/-- A one-image plane as a stack of one. -/
def up {α : Type} (v : S128x128.Idx → α) : S1x128x128.Idx → α := shapeCast S1x128x128 v shapeCasts_S128x128_S1x128x128

/-- The largest value, as a vector of one. -/
def mx1 (v : FVec F S128x128 .f32) : FVec F S1 .f32 :=
  multiReduction .maximumf [1, 2] S1 (up v) 0xFF800000#32 reduces_S1x128x128_S1 (.inl rfl) rfl

/-- The largest value. -/
def mx (v : FVec F S128x128 .f32) : F .f32 :=
  extractAt ![0, 0, 0] (shapeCast S1x1x1 (mx1 v) shapeCasts_S1_S1x1x1) inpos_S1x1x1_p0_0_0

/-- The positions at which the largest value stands. -/
def eqm (v : FVec F S128x128 .f32) : IVec S128x128 1 := cmpf .oeq v (broadcast S128x128 (mx v))

/-- The flat index where the largest value stands, an index out of range elsewhere. -/
def cand (v : FVec F S128x128 .f32) : IVec S128x128 32 := select (eqm v) k0_pay10 (broadcast S128x128 16384#32)

/-- The smallest of a plane of integers. -/
def mni (c : IVec S128x128 32) : BitVec 32 :=
  extractAt ![0, 0, 0]
    (shapeCast S1x1x1 (multiReductionI .minsi [1, 2] S1 (up c) 2147483647#32 reduces_S1x128x128_S1 rfl) shapeCasts_S1_S1x1x1)
    inpos_S1x1x1_p0_0_0

/-- The position this round takes. -/
def hit (v : FVec F S128x128 .f32) : IVec S128x128 1 := cmpi .eq k0_pay10 (broadcast S128x128 (mni (cand v)))

/-- The values after the round. -/
def nxt (v : FVec F S128x128 .f32) : FVec F S128x128 .f32 := select (hit v) low v

/-- The weights after the round. -/
def wadd (w v : FVec F S128x128 .f32) : FVec F S128x128 .f32 := addf w (sitofp .f32 (extui 32 (hit v) natLt_1_32))

/-- The values after `n` rounds. -/
def vr (v : FVec F S128x128 .f32) : ℕ → FVec F S128x128 .f32
  | 0 => v
  | n + 1 => nxt (vr v n)

theorem vr_vr (v : FVec F S128x128 .f32) (m n : ℕ) : vr (vr v m) n = vr v (m + n) := by
  induction n with
  | zero => rfl
  | succ n ih => exact congrArg nxt ih

/-- The weights after `n` rounds. -/
def wr (v : FVec F S128x128 .f32) : ℕ → FVec F S128x128 .f32
  | 0 => broadcast S128x128 (Scalar.ofBits .f32 0x00000000#32 : F .f32)
  | n + 1 => wadd (wr v n) (vr v n)

/-- The weighted sum over the image. -/
def wsum (x : FVec F S96x128x128 .f32) (w : FVec F S128x128 .f32) : FVec F S1x96x1x1 .f32 :=
  shapeCast S1x96x1x1
    (shapeCast S96x1x1
      (multiReduction .add [1] S96x1
        (shapeCast S96x128x1
          (multiReduction .add [2] S96x128 (mulf x (broadcastTo S96x128x128 (up w) broadcasts_S1x128x128_S96x128x128)) 0x00000000#32
            reduces_S96x128x128_S96x128 (.inl rfl) rfl)
          shapeCasts_S96x128_S96x128x1)
        0x00000000#32 reduces_S96x128x1_S96x1 (.inl rfl) rfl)
      shapeCasts_S96x1_S96x1x1)
    shapeCasts_S96x1x1_S1x96x1x1

/-- Twelve, on every channel. -/
def twelve : FVec F S1x96x1x1 .f32 := broadcast S1x96x1x1 (Scalar.ofBits .f32 0x41400000#32 : F .f32)

theorem p14 (v : FVec F S128x128 .f32) : k0_pay14 v = wr v 2 := rfl
theorem p15 (v : FVec F S128x128 .f32) : k0_pay15 v = vr v 2 := rfl
theorem p16 (v : FVec F S128x128 .f32) : k0_pay16 v = broadcast S128x128 (mx (vr v 2)) := rfl
theorem p20 (v : FVec F S128x128 .f32) : k0_pay20 k0_pay10 v (broadcast S128x128 (mx v)) = vr v 2 := rfl
theorem p21 (v : FVec F S128x128 .f32) : k0_pay21 k0_pay10 v (broadcast S128x128 (mx v)) = hit (vr v 2) := rfl
theorem p22 (w v : FVec F S128x128 .f32) :
    k0_pay22 k0_pay10 w v (broadcast S128x128 (mx v)) = wadd (wadd (wadd w v) (vr v 1)) (vr v 2) := rfl
theorem p27 (w v : FVec F S128x128 .f32) : k0_pay27 k0_pay10 v (hit v) w = wadd (wadd w (vr v 1)) (vr v 2) := rfl
theorem p28 (v : FVec F S128x128 .f32) : k0_pay28 k0_pay10 v (hit v) = vr v 3 := rfl
theorem p29 (v : FVec F S128x128 .f32) : k0_pay29 k0_pay10 v (hit v) = up (cand (vr v 3)) := rfl
theorem p35 (w v : FVec F S128x128 .f32) :
    k0_pay35 k0_pay10 w v (up (cand v)) = wadd (wadd (wadd w v) (vr v 1)) (vr v 2) := rfl
theorem p36 (v : FVec F S128x128 .f32) : k0_pay36 k0_pay10 v (up (cand v)) = vr v 3 := rfl
theorem p37 (v : FVec F S128x128 .f32) : k0_pay37 k0_pay10 v (up (cand v)) = up (vr v 3) := rfl
theorem p79 (x : FVec F S96x128x128 .f32) (w v : FVec F S128x128 .f32) :
    k0_pay79 x k0_pay10 w v (up v) = divf (wsum x (wadd (wadd w v) (vr v 1))) twelve := rfl

/-- The foreground fallback is the mean over the twelve marked positions. -/
theorem topFg_eq (x : FVec F S96x128x128 .f32) (v : FVec F S128x128 .f32) :
    topFg x v = divf (wsum x (wr v 12)) twelve := by
  unfold topFg
  simp only [p14, p15, p16, p20, p21, p22, p27, p28, p29, p35, p36, p37, p79, vr_vr, Nat.reduceAdd, wr]

theorem p39 : k0_pay39 = k0_pay10 := rfl
theorem p43 (v : FVec F S128x128 .f32) : k0_pay43 v = wr (k0_pay38 v) 2 := rfl
theorem p44 (v : FVec F S128x128 .f32) : k0_pay44 v = vr (k0_pay38 v) 2 := rfl
theorem p45 (v : FVec F S128x128 .f32) : k0_pay45 v = mx1 (vr (k0_pay38 v) 2) := rfl
theorem p49 (w v : FVec F S128x128 .f32) : k0_pay49 k0_pay10 w v (mx1 v) = wadd (wadd w v) (vr v 1) := rfl
theorem p50 (v : FVec F S128x128 .f32) : k0_pay50 k0_pay10 v (mx1 v) = vr v 2 := rfl
theorem p51 (v : FVec F S128x128 .f32) : k0_pay51 k0_pay10 v (mx1 v) = hit (vr v 2) := rfl
theorem p56 (w v : FVec F S128x128 .f32) :
    k0_pay56 k0_pay10 w v (hit v) = wadd (wadd (wadd w v) (vr v 1)) (vr v 2) := rfl
theorem p57 (v : FVec F S128x128 .f32) : k0_pay57 k0_pay10 v (hit v) = vr v 3 := rfl
theorem p58 (v : FVec F S128x128 .f32) : k0_pay58 k0_pay10 v (hit v) = eqm (vr v 3) := rfl
theorem p62 (v : FVec F S128x128 .f32) : k0_pay62 k0_pay10 v (eqm v) 16384#32 = vr v 2 := rfl
theorem p63 (v : FVec F S128x128 .f32) : k0_pay63 k0_pay10 v (eqm v) 16384#32 = hit (vr v 2) := rfl
theorem p64 (w v : FVec F S128x128 .f32) :
    k0_pay64 k0_pay10 w v (eqm v) 16384#32 = wadd (wadd (wadd w v) (vr v 1)) (vr v 2) := rfl
theorem p66 (x : FVec F S96x128x128 .f32) (w v : FVec F S128x128 .f32) :
    k0_pay66 x k0_pay10 v (hit v) w (k0_pay65 (F := F)) = wsum x (wadd (wadd w (vr v 1)) (vr v 2)) := rfl

theorem p81 (y : FVec F S1x96x1x1 .f32) : k0_pay81 y (k0_pay67 (F := F)) = divf y twelve := rfl

/-- The background fallback is the mean over the twelve positions marked in the complement. -/
theorem topBg_eq (x : FVec F S96x128x128 .f32) (v : FVec F S128x128 .f32) :
    topBg x v = divf (wsum x (wr (k0_pay38 v) 12)) twelve := by
  unfold topBg
  simp only [p39, p43, p44, p45, p49, p50, p51, p56, p57, p58, p62, p63, p64, p66, p81, vr_vr, Nat.reduceAdd, wr]

end Cert.KernelIdeal.Val
-- ==== Proof.V.Ev.lean ====
module

public import Idealize.ShloMosaic.PureOps.Ideal.Laws

@[expose] public section

/-! Real arithmetic inside the extended reals: the operations of the kernel and of the reference on finite values, and
the few places where an infinite support vector or a degenerate range enters. -/

noncomputable section
namespace Cert.Val
open Idealize.ShloMosaic

/-- The norm floor. -/
def eps : ℝ := (Ideal.ofBits .f32 841731191#32).toReal

theorem eps_eq : Ideal.ofBits .f32 841731191#32 = (eps : EReal) ∧ 0 < eps := by
  have h : ∃ r : ℝ, 0 < r ∧ Ideal.ofBits .f32 841731191#32 = (r : EReal) := by
    refine ⟨_, ?_, by simp [Ideal.ofBits, Ideal.ieee]; rfl⟩
    positivity
  obtain ⟨r, hr, h⟩ := h
  unfold eps
  rw [h]
  exact ⟨rfl, hr⟩

theorem ten_eq : Ideal.ofBits .f32 1092616192#32 = ((10 : ℝ) : EReal) := by
  simp [Ideal.ofBits, Ideal.ieee]
  rw [← EReal.coe_mul]; norm_num
theorem twelve_eq : Ideal.ofBits .f32 1094713344#32 = ((12 : ℝ) : EReal) := by
  simp [Ideal.ofBits, Ideal.ieee]
  rw [← EReal.coe_mul]; norm_num

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_real (a : ℝ) {b : ℝ} (h : b ≠ 0) : Ideal.div (a : EReal) (b : EReal) = ((a / b : ℝ) : EReal) := by
  rw [Ideal.div_coe h, ← EReal.coe_mul, mul_one_div]

theorem sqrt_real {a : ℝ} (h : 0 ≤ a) : Ideal.sqrt (a : EReal) = ((Real.sqrt a : ℝ) : EReal) := by
  rw [Ideal.sqrt_coe, if_neg (not_lt.2 h)]

theorem div_top (a : EReal) : Ideal.div a ⊤ = 0 := by simp [Ideal.div]

theorem zero_div_zero : Ideal.div 0 0 = ⊥ := by simp [Ideal.div]

/-- The floored norm of a real vector. -/
def nrm {n : ℕ} (p : Fin n → ℝ) : ℝ := max (Real.sqrt (∑ c, p c * p c)) eps

theorem nrm_pos {n : ℕ} (p : Fin n → ℝ) : 0 < nrm p := lt_of_lt_of_le eps_eq.2 (le_max_right _ _)

theorem nrm_real {n : ℕ} (p : Fin n → ℝ) :
    max (Ideal.sqrt (∑ c, (p c : EReal) * (p c : EReal))) (Ideal.ofBits .f32 841731191#32) = (nrm p : EReal) := by
  rw [eps_eq.1]
  simp only [← EReal.coe_mul]
  rw [coe_sum, sqrt_real (Finset.sum_nonneg fun c _ => mul_self_nonneg _), coe_max]
  rfl

theorem dot_real {n : ℕ} (x p : Fin n → ℝ) :
    ∑ c, (x c : EReal) * (p c : EReal) = ((∑ c, x c * p c : ℝ) : EReal) := by
  simp only [← EReal.coe_mul]
  rw [coe_sum]

/-- A support vector enters only through its direction, which is a real vector: where an entry is infinite the norm is
    infinite and the direction is zero. -/
theorem exists_dir {n : ℕ} (f : Fin n → EReal) : ∃ u : Fin n → ℝ,
    (∀ c, Ideal.div (f c) (max (Ideal.sqrt (∑ c, f c * f c)) (Ideal.ofBits .f32 841731191#32)) = (u c : EReal))
    ∧ ∀ (y : Fin n → ℝ) (q : ℝ), 0 < q →
      Ideal.div (∑ c, (y c : EReal) * f c)
        ((q : EReal) * max (Ideal.sqrt (∑ c, f c * f c)) (Ideal.ofBits .f32 841731191#32))
        = (((∑ c, y c * u c) / q : ℝ) : EReal) := by
  by_cases hf : ∀ c, ∃ r : ℝ, f c = (r : EReal)
  · choose r hr using hf
    obtain rfl : f = fun c => (r c : EReal) := funext hr
    refine ⟨fun c => r c / nrm r, fun c => ?_, fun y q hq => ?_⟩
    · rw [nrm_real, div_real _ (nrm_pos r).ne']
    · rw [nrm_real, dot_real, ← EReal.coe_mul, div_real _ (mul_pos hq (nrm_pos r)).ne']
      congr 1
      simp only [mul_div_assoc']
      rw [← Finset.sum_div, div_div, mul_comm]
  · push Not at hf
    obtain ⟨c0, h0⟩ := hf
    have hnn : ∀ c, 0 ≤ f c * f c := by
      intro c
      rcases le_total 0 (f c) with h | h
      · exact mul_nonneg h h
      · have := EReal.neg_le_neg_iff.2 h
        rw [neg_zero] at this
        rw [← neg_mul_neg]; exact mul_nonneg this this
    have htop : f c0 * f c0 = ⊤ := by
      induction hc : f c0 using EReal.rec with
      | bot => simp
      | top => simp
      | coe r => exact absurd hc (h0 r)
    have hs : ∑ c, f c * f c = ⊤ := by
      refine top_le_iff.1 ?_
      rw [← htop]
      exact Finset.single_le_sum (fun c _ => hnn c) (Finset.mem_univ c0)
    rw [hs]
    simp only [Ideal.sqrt_top, max_eq_left le_top]
    refine ⟨fun _ => 0, fun c => by rw [div_top]; simp, fun y q hq => ?_⟩
    rw [EReal.coe_mul_top_of_pos hq, div_top]; simp

/-- The threshold is a real number for every `τ`. -/
theorem exists_thr (τ : EReal) : ∃ t : ℝ, Ideal.div 1 (1 + Ideal.exp (-τ)) = (t : EReal) := by
  induction τ using EReal.rec with
  | bot => exact ⟨0, by
      rw [EReal.neg_bot, Ideal.exp_top, show (1 : EReal) + ⊤ = ⊤ from EReal.coe_add_top 1, div_top]; simp⟩
  | top => exact ⟨1, by simp [Ideal.div]⟩
  | coe r =>
    refine ⟨1 / (1 + Real.exp (-r)), ?_⟩
    rw [← EReal.coe_neg, Ideal.exp_coe, ← EReal.coe_one, ← EReal.coe_add, div_real _ (by positivity)]

/-- The softmax of two finite scores, shifted by any finite amount: the second. -/
theorem softmax_fg (a b m : ℝ) :
    Ideal.div (Ideal.exp ((b : EReal) - m)) (Ideal.exp ((a : EReal) - m) + Ideal.exp ((b : EReal) - m))
      = ((1 / (1 + Real.exp (-(b - a))) : ℝ) : EReal) := by
  rw [← EReal.coe_sub, ← EReal.coe_sub, Ideal.exp_coe, Ideal.exp_coe, ← EReal.coe_add, div_real _ (by positivity)]
  congr 1
  rw [div_eq_div_iff (by positivity) (by positivity), one_mul, mul_add, mul_one, ← Real.exp_add, add_comm]
  congr 2; ring

/-- The first. -/
theorem softmax_bg (a b m : ℝ) :
    Ideal.div (Ideal.exp ((a : EReal) - m)) (Ideal.exp ((a : EReal) - m) + Ideal.exp ((b : EReal) - m))
      = ((1 - 1 / (1 + Real.exp (-(b - a))) : ℝ) : EReal) := by
  rw [← EReal.coe_sub, ← EReal.coe_sub, Ideal.exp_coe, Ideal.exp_coe, ← EReal.coe_add, div_real _ (by positivity)]
  congr 1
  have h : Real.exp (b - m) = Real.exp (a - m) * Real.exp (b - a) := by rw [← Real.exp_add]; congr 1; ring
  have h2 : Real.exp (-(b - a)) * Real.exp (b - a) = 1 := by rw [← Real.exp_add]; simp
  rw [h]
  have := Real.exp_pos (a - m)
  have := Real.exp_pos (b - a)
  have := Real.exp_pos (-(b - a))
  field_simp
  linear_combination (-1 : ℝ) * h2

/-- The last step on one element: a range that is a point makes its map `0/0`; with the other range real the product
    distributes all the same. -/
theorem last_step (x a m0 m1 d m2 m3 : ℝ) (hl : m0 ≠ m1 ∨ m2 ≠ m3) (ha : m0 = m1 → a = m0) (hd : m2 = m3 → d = m2) :
    (x : EReal) * (Ideal.div ((a : EReal) - m0) ((m1 : EReal) - m0) + (1 - Ideal.div ((d : EReal) - m2) ((m3 : EReal) - m2)))
      = (x : EReal) * Ideal.div ((a : EReal) - m0) ((m1 : EReal) - m0)
        + (x : EReal) * (1 - Ideal.div ((d : EReal) - m2) ((m3 : EReal) - m2)) := by
  have hr : ∀ p q r : ℝ, q ≠ r → Ideal.div ((p : EReal) - q) ((r : EReal) - q) = (((p - q) / (r - q) : ℝ) : EReal) := by
    intro p q r h
    rw [← EReal.coe_sub, ← EReal.coe_sub, div_real _ (sub_ne_zero.2 h.symm)]
  have hz : ∀ q : ℝ, Ideal.div ((q : EReal) - q) ((q : EReal) - q) = ⊥ := by
    intro q
    rw [← EReal.coe_sub, sub_self, EReal.coe_zero, zero_div_zero]
  by_cases h01 : m0 = m1
  · have h23 : m2 ≠ m3 := hl.resolve_left (fun h => h h01)
    rw [ha h01, ← h01, hz, hr _ _ _ h23, ← EReal.coe_one, ← EReal.coe_sub, EReal.bot_add]
    rcases lt_trichotomy x 0 with hx | hx | hx
    · rw [EReal.coe_mul_bot_of_neg hx, ← EReal.coe_mul, EReal.top_add_coe]
    · subst hx; simp
    · rw [EReal.coe_mul_bot_of_pos hx, EReal.bot_add]
  · by_cases h23 : m2 = m3
    · rw [hd h23, ← h23, hz, hr _ _ _ h01, show (1 : EReal) - ⊥ = ⊤ from by
        rw [sub_eq_add_neg, EReal.neg_bot]; exact EReal.coe_add_top 1, EReal.coe_add_top]
      rcases lt_trichotomy x 0 with hx | hx | hx
      · rw [EReal.coe_mul_top_of_neg hx, EReal.add_bot]
      · subst hx; simp
      · rw [EReal.coe_mul_top_of_pos hx, ← EReal.coe_mul, EReal.coe_add_top]
    · rw [hr _ _ _ h01, hr _ _ _ h23, ← EReal.coe_one]
      simp only [← EReal.coe_sub, ← EReal.coe_add, ← EReal.coe_mul]
      congr 1; ring

end Cert.Val
-- ==== Proof.V.Top.lean ====
module

public import Idealize.ShloMosaic.Lib.SortFacts
public import Idealize.ShloMosaic.PureOps.Ideal.Laws

@[expose] public section

/-! The twelve largest elements, counted by rank.

One position comes before another when its value is larger, or equal with a smaller key. Every position then has a
rank. A round that marks the first largest element among those not yet taken marks the element whose rank is the
number of rounds already made; a stable descending sort puts the element of rank `k` at place `k`. -/

noncomputable section
namespace Cert.Val
open Idealize.ShloMosaic

section Rank
variable {ι : Type} [Fintype ι] (v : ι → ℝ) (key : ι → ℕ)

/-- `p` is listed before `q`: larger value, or the same value and a smaller key. -/
def Before (p q : ι) : Prop := v q < v p ∨ (v p = v q ∧ key p < key q)

open Classical in
/-- How many positions are listed before `p`. -/
def rank (p : ι) : ℕ := (Finset.univ.filter fun q => Before v key q p).card

theorem Before.trans {v : ι → ℝ} {key : ι → ℕ} {p q r : ι} (h : Before v key p q) (h' : Before v key q r) :
    Before v key p r := by
  unfold Before at *
  rcases h with h | ⟨h, k⟩ <;> rcases h' with h' | ⟨h', k'⟩
  · exact .inl (h'.trans h)
  · exact .inl (h' ▸ h)
  · exact .inl (h ▸ h')
  · exact .inr ⟨h.trans h', k.trans k'⟩

theorem Before.irrefl (p : ι) : ¬ Before v key p p := by
  unfold Before; simp

theorem rank_lt_of_before {p q : ι} (h : Before v key p q) : rank v key p < rank v key q := by
  classical
  refine Finset.card_lt_card ⟨fun r hr => ?_, fun hs => ?_⟩
  · simp only [Finset.mem_filter, Finset.mem_univ, true_and] at hr ⊢
    exact hr.trans h
  · exact Before.irrefl v key p (Finset.mem_filter.1 (hs (Finset.mem_filter.2 ⟨Finset.mem_univ _, h⟩))).2

theorem before_total (hk : Function.Injective key) {p q : ι} (h : p ≠ q) : Before v key p q ∨ Before v key q p := by
  unfold Before
  rcases lt_trichotomy (v p) (v q) with h1 | h1 | h1
  · exact .inr (.inl h1)
  · rcases lt_trichotomy (key p) (key q) with h2 | h2 | h2
    · exact .inl (.inr ⟨h1, h2⟩)
    · exact absurd (hk h2) h
    · exact .inr (.inr ⟨h1.symm, h2⟩)
  · exact .inl (.inl h1)

theorem rank_injective (hk : Function.Injective key) : Function.Injective (rank v key) := by
  intro p q h
  by_contra hn
  rcases before_total v key hk hn with h1 | h1
  · exact absurd (rank_lt_of_before v key h1) (by omega)
  · exact absurd (rank_lt_of_before v key h1) (by omega)

theorem before_of_rank_lt (hk : Function.Injective key) {p q : ι} (h : rank v key p < rank v key q) :
    Before v key p q := by
  rcases eq_or_ne p q with rfl | hn
  · exact absurd h (lt_irrefl _)
  · rcases before_total v key hk hn with h1 | h1
    · exact h1
    · exact absurd (rank_lt_of_before v key h1) (by omega)

theorem rank_lt_card (p : ι) : rank v key p < Fintype.card ι := by
  classical
  refine Finset.card_lt_univ_of_notMem (x := p) ?_
  simpa using Before.irrefl v key p

theorem exists_rank (hk : Function.Injective key) {r : ℕ} (hr : r < Fintype.card ι) : ∃ p, rank v key p = r := by
  let f : ι → Fin (Fintype.card ι) := fun p => ⟨rank v key p, rank_lt_card v key p⟩
  have hf : Function.Bijective f :=
    (Fintype.bijective_iff_injective_and_card f).2
      ⟨fun p q h => rank_injective v key hk (congrArg Fin.val h), by simp⟩
  obtain ⟨p, hp⟩ := hf.2 ⟨r, hr⟩
  exact ⟨p, congrArg Fin.val hp⟩

/-- One round: `K` is the smallest key at which the values still standing are largest. The position with that key is
    the one of rank `r`, where `r` positions have been taken already. -/
theorem round_hit (hk : Function.Injective key) {r : ℕ} (hr : r < Fintype.card ι) (V : ι → EReal)
    (hV : ∀ p, V p = if rank v key p < r then ⊥ else (v p : EReal)) (M : EReal) (hM : ∀ p, V p ≤ M)
    (hM' : ∃ p, V p = M) (K : ℕ) (hK : ∀ p, V p = M → K ≤ key p) (hK' : ∃ p, V p = M ∧ key p = K) (p : ι) :
    key p = K ↔ rank v key p = r := by
  obtain ⟨p0, h0⟩ := exists_rank v key hk hr
  have hV0 : V p0 = (v p0 : EReal) := by rw [hV, if_neg (by omega)]
  have hge : ∀ q, ¬ rank v key q < r → q = p0 ∨ Before v key p0 q := by
    intro q hq
    rcases eq_or_ne q p0 with h | h
    · exact .inl h
    · refine .inr (before_of_rank_lt v key hk ?_)
      have : rank v key q ≠ rank v key p0 := fun e => h (rank_injective v key hk e)
      omega
  have hle : ∀ q, ¬ rank v key q < r → v q ≤ v p0 := by
    intro q hq
    rcases hge q hq with rfl | h | h
    · exact le_rfl
    · exact h.le
    · exact h.1.symm.le
  have hMe : M = (v p0 : EReal) := by
    obtain ⟨q, hq⟩ := hM'
    refine le_antisymm ?_ (hV0 ▸ hM p0)
    rw [← hq, hV]
    split
    · exact bot_le
    · exact EReal.coe_le_coe_iff.2 (hle q ‹_›)
  have hcand : ∀ q, V q = M → key p0 ≤ key q := by
    intro q hq
    rw [hV, hMe] at hq
    split at hq
    · exact absurd hq.symm (EReal.coe_ne_bot _)
    · rcases hge q ‹_› with rfl | h | h
      · exact le_rfl
      · exact absurd (EReal.coe_eq_coe_iff.1 hq) h.ne
      · exact h.2.le
  have hKe : K = key p0 := by
    obtain ⟨q, hq, hqk⟩ := hK'
    exact le_antisymm (hK p0 (hV0.trans hMe.symm)) (hqk ▸ hcand q hq)
  constructor
  · intro h
    rw [hk (h.trans hKe)]; exact h0
  · intro h
    rw [hKe, rank_injective v key hk (h.trans h0.symm)]

/-- A renaming of the positions that keeps values and the order of keys keeps ranks. -/
theorem rank_equiv {κ : Type} [Fintype κ] (e : κ ≃ ι) (p : κ) :
    rank (fun k => v (e k)) (fun k => key (e k)) p = rank v key (e p) := by
  classical
  unfold rank
  refine Finset.card_bij (fun q _ => e q) ?_ ?_ ?_
  · intro q hq; exact Finset.mem_filter.2 ⟨Finset.mem_univ _, (Finset.mem_filter.1 hq).2⟩
  · intro a _ b _ h; exact e.injective h
  · intro q hq
    have h2 := (Finset.mem_filter.1 hq).2
    exact ⟨e.symm q, Finset.mem_filter.2 ⟨Finset.mem_univ _, by simpa [Before] using h2⟩, by simp⟩

end Rank

section Sorted
variable {n : ℕ} (v : Fin n → ℝ)

theorem insert_sorted (R : Fin n → Fin n → Bool) (hR : ∀ a b, R a b = true ↔ v b < v a) (a : Fin n) (l : List (Fin n))
    (hl : l.Pairwise (Before v Fin.val)) (ha : ∀ b ∈ l, a < b) :
    (insertBefore R a l).Pairwise (Before v Fin.val) := by
  induction l with
  | nil => simp [insertBefore]
  | cons b l ih =>
    rw [List.pairwise_cons] at hl
    unfold insertBefore
    split
    · rename_i hb
      refine List.pairwise_cons.2 ⟨fun c hc => ?_, ih hl.2 fun c hc => ha c (List.mem_cons_of_mem _ hc)⟩
      rcases List.mem_cons.1 ((perm_insertBefore R a l).mem_iff.1 hc) with rfl | hc
      · exact .inl ((hR _ _).1 hb)
      · exact hl.1 c hc
    · rename_i hb
      have hab : Before v Fin.val a b := by
        have h1 : ¬ v a < v b := fun h => hb ((hR _ _).2 h)
        rcases (not_lt.1 h1).lt_or_eq with h | h
        · exact .inl h
        · exact .inr ⟨h.symm, ha b (List.mem_cons_self ..)⟩
      refine List.pairwise_cons.2 ⟨fun c hc => ?_, List.pairwise_cons.2 hl⟩
      rcases List.mem_cons.1 hc with rfl | hc
      · exact hab
      · exact hab.trans (hl.1 c hc)

theorem stable_sorted (R : Fin n → Fin n → Bool) (hR : ∀ a b, R a b = true ↔ v b < v a) (l : List (Fin n))
    (hl : l.Pairwise (· < ·)) : (stableSort R l).Pairwise (Before v Fin.val) := by
  induction l with
  | nil => simp [stableSort]
  | cons a l ih =>
    rw [List.pairwise_cons] at hl
    unfold stableSort
    exact insert_sorted v R hR a _ (ih hl.2) fun b hb => hl.1 b ((perm_stableSort R l).mem_iff.1 hb)

theorem sortedFrom_before (R : Fin n → Fin n → Bool) (hR : ∀ a b, R a b = true ↔ v b < v a) {i j : Fin n} (h : i < j) :
    Before v Fin.val (sortedFrom R i) (sortedFrom R j) := by
  have hp := stable_sorted v R hR (List.finRange n) (List.pairwise_lt_finRange n)
  rw [List.pairwise_iff_get] at hp
  exact hp _ _ h

/-- The position sorted to place `k` has rank `k`. -/
theorem rank_sortedFrom (R : Fin n → Fin n → Bool) (hR : ∀ a b, R a b = true ↔ v b < v a) (k : Fin n) :
    rank v Fin.val (sortedFrom R k) = k := by
  classical
  have hb : ∀ i, Before v Fin.val (sortedFrom R i) (sortedFrom R k) ↔ i < k := by
    intro i
    constructor
    · intro h
      by_contra hn
      rcases (not_lt.1 hn).lt_or_eq with h1 | h1
      · exact Before.irrefl v Fin.val _ (h.trans (sortedFrom_before v R hR h1))
      · exact Before.irrefl v Fin.val _ (h1 ▸ h)
    · exact sortedFrom_before v R hR
  unfold rank
  rw [← Fin.card_Iio k]
  symm
  refine Finset.card_bij (fun i _ => sortedFrom R i) ?_ ?_ ?_
  · intro i hi
    simpa [hb] using hi
  · intro a _ b _ h; exact sortedFrom_injective R h
  · intro q hq
    obtain ⟨i, rfl⟩ := sortedFrom_surjective R q
    exact ⟨i, by simpa [hb] using hq, rfl⟩

/-- Summing over the first `m` places of the sort is summing over the positions of rank below `m`. -/
theorem sum_sorted (R : Fin n → Fin n → Bool) (hR : ∀ a b, R a b = true ↔ v b < v a) {m : ℕ} (hm : m ≤ n) (f : Fin n → ℝ) :
    ∑ k : Fin m, f (sortedFrom R (Fin.castLE hm k)) = ∑ p, if rank v Fin.val p < m then f p else 0 := by
  classical
  rw [← Finset.sum_filter]
  refine Finset.sum_bij (fun k _ => sortedFrom R (Fin.castLE hm k)) ?_ ?_ ?_ ?_
  · intro k _
    simp [rank_sortedFrom v R hR]
  · intro a _ b _ h
    exact Fin.castLE_injective hm (sortedFrom_injective R h)
  · intro q hq
    obtain ⟨i, rfl⟩ := sortedFrom_surjective R q
    simp only [Finset.mem_filter, Finset.mem_univ, true_and, rank_sortedFrom v R hR] at hq
    exact ⟨⟨i, hq⟩, Finset.mem_univ _, rfl⟩
  · intro k _; rfl

end Sorted
end Cert.Val
-- ==== Proof.V.Model.lean ====
module

public import proofs.«01_k».proof.Proof.V.Ev
public import proofs.«01_k».proof.Proof.V.Top

@[expose] public section

/-! One image in real numbers: the confidence of a pixel, the prototype of a side and the similarity map to it.

`x c h w` is the query image, `u` and `v` the directions of the two support vectors and `t` the threshold. -/

noncomputable section
namespace Cert.Val

/-- A pixel. -/
abbrev Pix := Fin 128 × Fin 128

/-- The flat index of a pixel. -/
def key (p : Pix) : ℕ := 128 * p.1 + p.2

theorem key_injective : Function.Injective key := by
  rintro ⟨a, b⟩ ⟨c, d⟩ h
  simp only [key] at h
  have h1 : (a : ℕ) = c := by omega
  have h2 : (b : ℕ) = d := by omega
  exact Prod.ext (Fin.ext h1) (Fin.ext h2)

theorem key_lt (p : Pix) : key p < 16384 := by
  obtain ⟨a, b⟩ := p
  simp only [key]; omega

abbrev Img := Fin 96 → Fin 128 → Fin 128 → ℝ

variable (x : Img) (u v : Fin 96 → ℝ)

/-- The floored norm of a pixel's features. -/
def qn (h w : Fin 128) : ℝ := nrm fun c => x c h w

theorem qn_pos (h w : Fin 128) : 0 < qn x h w := nrm_pos _

/-- The cosine similarity of a pixel to a direction. -/
def score (u : Fin 96 → ℝ) (h w : Fin 128) : ℝ := (∑ c, x c h w * u c) / qn x h w

/-- The foreground confidence. -/
def conf (p : Pix) : ℝ := 1 / (1 + Real.exp (-(score x u p.1 p.2 * 10 - score x v p.1 p.2 * 10)))

/-- Whether a pixel's confidence passes the threshold. -/
def msk (r : Pix → ℝ) (t : ℝ) (p : Pix) : ℝ := if t < r p then 1 else 0

/-- How many pixels pass. -/
def cnt (r : Pix → ℝ) (t : ℝ) : ℝ := ∑ h, ∑ w, msk r t (h, w)

/-- Whether a pixel is among the twelve of largest confidence. -/
def top (r : Pix → ℝ) (p : Pix) : ℝ := if rank r key p < 12 then 1 else 0

/-- The prototype: the mean over the passing pixels, or over the twelve most confident where none passes. -/
def proto (r : Pix → ℝ) (t : ℝ) (c : Fin 96) : ℝ :=
  if 0 < cnt r t then (∑ h, ∑ w, x c h w * msk r t (h, w)) / cnt r t else (∑ h, ∑ w, x c h w * top r (h, w)) / 12

/-- The similarity map to a prototype. -/
def act (p : Fin 96 → ℝ) (h w : Fin 128) : ℝ := (∑ c, x c h w * p c) / (qn x h w * nrm p)

/-- The two prototypes. -/
def fgr (t : ℝ) : Fin 96 → ℝ := proto x (conf x u v) t
def bgr (t : ℝ) : Fin 96 → ℝ := proto x (fun p => 1 - conf x u v p) (1 - t)

theorem cnt_nonneg (r : Pix → ℝ) (t : ℝ) : 0 ≤ cnt r t :=
  Finset.sum_nonneg fun h _ => Finset.sum_nonneg fun w _ => by unfold msk; split <;> norm_num

/-- Where no confidence equals the threshold, the complement passes exactly where the confidence does not. -/
theorem msk_compl (r : Pix → ℝ) (t : ℝ) (p : Pix) (h : r p ≠ t) : msk (fun p => 1 - r p) (1 - t) p = 1 - msk r t p := by
  unfold msk
  rcases lt_or_gt_of_ne h with h1 | h1
  · rw [if_pos (by linarith), if_neg (by linarith)]; norm_num
  · rw [if_neg (by linarith), if_pos h1]; norm_num

theorem cnt_compl (r : Pix → ℝ) (t : ℝ) (h : ∀ p, r p ≠ t) : cnt (fun p => 1 - r p) (1 - t) = 16384 - cnt r t := by
  unfold cnt
  have e : (16384 : ℝ) = ∑ _h : Fin 128, ∑ _w : Fin 128, (1 : ℝ) := by
    rw [Finset.sum_const, Finset.sum_const, Finset.card_univ, Fintype.card_fin]; norm_num
  rw [e, ← Finset.sum_sub_distrib]
  refine Finset.sum_congr rfl fun a _ => ?_
  rw [← Finset.sum_sub_distrib]
  exact Finset.sum_congr rfl fun b _ => msk_compl r t (a, b) (h (a, b))

theorem sum_compl (r : Pix → ℝ) (t : ℝ) (h : ∀ p, r p ≠ t) (c : Fin 96) :
    ∑ a, ∑ b, x c a b * msk (fun p => 1 - r p) (1 - t) (a, b) = ∑ a, ∑ b, x c a b - ∑ a, ∑ b, x c a b * msk r t (a, b) := by
  rw [← Finset.sum_sub_distrib]
  refine Finset.sum_congr rfl fun a _ => ?_
  rw [← Finset.sum_sub_distrib]
  refine Finset.sum_congr rfl fun b _ => ?_
  rw [msk_compl r t (a, b) (h (a, b))]
  ring

end Cert.Val
-- ==== Proof.V.RoundVal.lean ====
module

public import proofs.«01_k».proof.Proof.V.Rounds
public import proofs.«01_k».proof.Proof.V.Model
public import Idealize.ShloMosaic.Lib.Pointwise

@[expose] public section
set_option maxRecDepth 16384

/-! What the twelve rounds leave, by rank: after `n` rounds a position's weight is one exactly when its rank is below
`n`, and those positions are struck out. -/

noncomputable section
namespace Cert.KernelIdeal.Val
open Cert.KernelIdeal Cert.KernelIdeal.Gen Cert.KernelIdeal.Body
open Idealize.ShloMosaic Cert.Val

theorem ofBits_low : Ideal.ofBits .f32 0xFF800000#32 = (⊥ : EReal) := by
  simp [Ideal.ofBits, Ideal.ieee]

theorem ofBits_high : Ideal.ofBits .f32 0x7F800000#32 = (⊤ : EReal) := by
  simp [Ideal.ofBits, Ideal.ieee]

theorem mx_fold (v : FVec Ideal S128x128 .f32) :
    @Eq EReal (mx v) (Finset.fold max ⊥ (fun x : Fin 128 × Fin 128 => (v (ix2 x.1 x.2) : EReal)) Finset.univ) := by
  rw [← ofBits_low]
  pointwise [mx, mx1, up]

theorem mni_fold (v : IVec S128x128 32) :
    mni v = Finset.fold IntOp.minsi 2147483647#32 (fun x : Fin 128 × Fin 128 => v (ix2 x.1 x.2)) Finset.univ := by
  pointwise [mni, up]

theorem flat_at (h w : Fin 128) : k0_pay10 (ix2 h w) = BitVec.ofNat 32 (key (h, w)) := by
  pointwise [k0_pay10]
  simp only [IntOp.addi, IntOp.muli, key]
  apply BitVec.eq_of_toNat_eq
  simp [BitVec.toNat_add, BitVec.toNat_mul]
  omega

theorem fold_max_le {ι : Type} [Fintype ι] (f : ι → EReal) (p : ι) : f p ≤ Finset.fold max ⊥ f Finset.univ :=
  (Finset.le_fold_max (f p)).2 (.inr ⟨p, Finset.mem_univ p, le_rfl⟩)

theorem fold_max_mem {ι : Type} [Fintype ι] [Nonempty ι] (f : ι → EReal) : ∃ p, f p = Finset.fold max ⊥ f Finset.univ := by
  obtain ⟨p, _, hp⟩ := Finset.exists_max_image Finset.univ f Finset.univ_nonempty
  refine ⟨p, le_antisymm (fold_max_le f p) ((Finset.fold_max_le (f p)).2 ⟨bot_le, fun q _ => hp q (Finset.mem_univ q)⟩)⟩

theorem minsi_cases (a b : BitVec 32) :
    (IntOp.minsi a b = a ∨ IntOp.minsi a b = b) ∧ (IntOp.minsi a b).toInt ≤ a.toInt ∧ (IntOp.minsi a b).toInt ≤ b.toInt := by
  unfold IntOp.minsi
  simp only [BitVec.slt, BitVec.sle]
  split
  · rename_i h
    have := of_decide_eq_true h
    exact ⟨.inl rfl, le_rfl, by omega⟩
  · rename_i h
    have : ¬ _ := fun h' => h (decide_eq_true h')
    exact ⟨.inr rfl, by omega, le_rfl⟩

theorem fold_minsi {ι : Type} (s : Finset ι) (b : BitVec 32) (f : ι → BitVec 32) :
    (Finset.fold IntOp.minsi b f s = b ∨ ∃ x ∈ s, Finset.fold IntOp.minsi b f s = f x)
      ∧ (∀ x ∈ s, (Finset.fold IntOp.minsi b f s).toInt ≤ (f x).toInt) := by
  classical
  induction s using Finset.induction_on with
  | empty => simp
  | insert a s ha ih =>
    rw [Finset.fold_insert ha]
    obtain ⟨h1, h2, h3⟩ := minsi_cases (f a) (Finset.fold IntOp.minsi b f s)
    refine ⟨?_, ?_⟩
    · rcases h1 with h1 | h1
      · exact .inr ⟨a, Finset.mem_insert_self _ _, h1⟩
      · rw [h1]
        rcases ih.1 with h | ⟨x, hx, h⟩
        · exact .inl h
        · exact .inr ⟨x, Finset.mem_insert_of_mem hx, h⟩
    · intro x hx
      rcases Finset.mem_insert.1 hx with rfl | hx
      · exact h2
      · exact h3.trans (ih.2 x hx)

theorem cand_at (v : FVec Ideal S128x128 .f32) (h w : Fin 128) :
    cand v (ix2 h w) = if (v (ix2 h w) : EReal) = mx v then BitVec.ofNat 32 (key (h, w)) else 16384#32 := by
  rw [← flat_at]
  pointwise [cand, eqm]

theorem toInt_key (p : Fin 128 × Fin 128) : (BitVec.ofNat 32 (key p)).toInt = key p := by
  have := key_lt p
  rw [BitVec.toInt_eq_toNat_of_lt (by rw [BitVec.toNat_ofNat]; omega), BitVec.toNat_ofNat]
  omega

theorem hit_at (v : FVec Ideal S128x128 .f32) (r : Fin 128 × Fin 128 → ℝ) {n : ℕ} (hn : n < 16384)
    (hv : ∀ h w, (v (ix2 h w) : EReal) = if rank r key (h, w) < n then ⊥ else (r (h, w) : EReal)) (h w : Fin 128) :
    hit v (ix2 h w) = if rank r key (h, w) = n then 1#1 else 0#1 := by
  have hM : ∀ p : Fin 128 × Fin 128, (v (ix2 p.1 p.2) : EReal) ≤ mx v := fun p => by
    rw [mx_fold]; exact fold_max_le (fun x : Fin 128 × Fin 128 => (v (ix2 x.1 x.2) : EReal)) p
  obtain ⟨p0, hp0⟩ : ∃ p : Fin 128 × Fin 128, (v (ix2 p.1 p.2) : EReal) = mx v := by
    rw [mx_fold]; exact fold_max_mem (fun x : Fin 128 × Fin 128 => (v (ix2 x.1 x.2) : EReal))
  obtain ⟨c1, c2⟩ := fold_minsi Finset.univ 2147483647#32 fun x : Fin 128 × Fin 128 => cand v (ix2 x.1 x.2)
  rw [← mni_fold] at c1 c2
  have hc : ∀ p : Fin 128 × Fin 128, (v (ix2 p.1 p.2) : EReal) = mx v → cand v (ix2 p.1 p.2) = BitVec.ofNat 32 (key p) :=
    fun p hp => by rw [cand_at, if_pos hp]
  have hsmall : (mni (cand v)).toInt < 16384 := by
    have h1 := c2 p0 (Finset.mem_univ _)
    rw [hc p0 hp0, toInt_key] at h1
    have := key_lt p0
    omega
  obtain ⟨q, hq, hqk⟩ : ∃ q : Fin 128 × Fin 128, (v (ix2 q.1 q.2) : EReal) = mx v ∧ mni (cand v) = BitVec.ofNat 32 (key q) := by
    rcases c1 with c1 | ⟨q, _, c1⟩
    · rw [c1] at hsmall; simp at hsmall
    · by_cases hq : (v (ix2 q.1 q.2) : EReal) = mx v
      · exact ⟨q, hq, c1.trans (hc q hq)⟩
      · rw [c1, cand_at, if_neg hq] at hsmall; simp at hsmall
  have key1 := round_hit r key key_injective (r := n) (by simpa using hn) (fun p => (v (ix2 p.1 p.2) : EReal))
    (fun p => hv p.1 p.2) (mx v) hM ⟨p0, hp0⟩ (key q) (fun p hp => by
      have h1 := c2 p (Finset.mem_univ _)
      rw [hc p hp, toInt_key, hqk, toInt_key] at h1
      omega) ⟨q, hq, rfl⟩ (h, w)
  have hh : hit v (ix2 h w) = IntOp.cmpi .eq (k0_pay10 (ix2 h w)) (mni (cand v)) := by
    pointwise [hit]
  have e : (BitVec.ofNat 32 (key (h, w)) = BitVec.ofNat 32 (key q)) ↔ key (h, w) = key q := by
    constructor
    · intro e
      have := congrArg BitVec.toInt e
      rw [toInt_key, toInt_key] at this
      omega
    · intro e; rw [e]
  rw [hh, flat_at, hqk]
  by_cases hr : rank r key (h, w) = n
  · rw [if_pos hr, (e.2 (key1.2 hr))]; simp [IntOp.cmpi]
  · rw [if_neg hr]
    have : ¬ BitVec.ofNat 32 (key (h, w)) = BitVec.ofNat 32 (key q) := fun h' => hr (key1.1 (e.1 h'))
    simp only [IntOp.cmpi, beq_eq_false_iff_ne.2 this]
    rfl

/-- After `n` rounds the positions of rank below `n` are struck out. -/
theorem vr_at (v : FVec Ideal S128x128 .f32) (r : Fin 128 × Fin 128 → ℝ) (hv : ∀ h w, (v (ix2 h w) : EReal) = (r (h, w) : EReal))
    {n : ℕ} (hn : n ≤ 16384) (h w : Fin 128) :
    (vr v n (ix2 h w) : EReal) = if rank r key (h, w) < n then ⊥ else (r (h, w) : EReal) := by
  induction n generalizing h w with
  | zero => simpa [vr] using hv h w
  | succ n ih =>
    have hh := hit_at (vr v n) r (Nat.lt_of_succ_le hn) (fun h w => ih (by omega) h w) h w
    have e : @Eq EReal (nxt (vr v n) (ix2 h w)) (Scalar.select (hit (vr v n) (ix2 h w)) ⊥ (vr v n (ix2 h w) : EReal)) := by
      rw [← ofBits_low]
      pointwise [nxt, low]
    have e2 := ih (by omega) h w
    show @Eq EReal (nxt (vr v n) (ix2 h w)) _
    rw [e, hh, e2]
    rcases lt_trichotomy (rank r key (h, w)) n with h1 | h1 | h1
    · rw [if_neg h1.ne, if_pos h1, if_pos (show rank r key (h, w) < n + 1 by omega)]; rfl
    · rw [if_pos h1, if_pos (show rank r key (h, w) < n + 1 by omega)]; rfl
    · rw [if_neg h1.ne', if_neg (show ¬ rank r key (h, w) < n by omega), if_neg (show ¬ rank r key (h, w) < n + 1 by omega)]; rfl

/-- After `n` rounds the weights mark the positions of rank below `n`. -/
theorem wr_at (v : FVec Ideal S128x128 .f32) (r : Fin 128 × Fin 128 → ℝ) (hv : ∀ h w, (v (ix2 h w) : EReal) = (r (h, w) : EReal))
    {n : ℕ} (hn : n ≤ 16384) (h w : Fin 128) :
    (wr v n (ix2 h w) : EReal) = if rank r key (h, w) < n then 1 else 0 := by
  induction n generalizing h w with
  | zero =>
    have e : @Eq EReal (wr v 0 (ix2 h w)) 0 := by pointwise [wr]
    simpa using e
  | succ n ih =>
    have hh := hit_at (vr v n) r (Nat.lt_of_succ_le hn) (fun h w => vr_at v r hv (by omega) h w) h w
    have e : @Eq EReal (wadd (wr v n) (vr v n) (ix2 h w))
        ((wr v n (ix2 h w) : EReal) + (((BitVec.setWidth 32 (hit (vr v n) (ix2 h w))).toInt : ℝ) : EReal)) := by
      pointwise [wadd]
      rfl
    have e2 := ih (by omega) h w
    show @Eq EReal (wadd (wr v n) (vr v n) (ix2 h w)) _
    rw [e, hh, e2]
    rcases lt_trichotomy (rank r key (h, w)) n with h1 | h1 | h1
    · rw [if_neg h1.ne, if_pos h1, if_pos (show rank r key (h, w) < n + 1 by omega)]; simp
    · rw [if_pos h1, if_neg (show ¬ rank r key (h, w) < n by omega), if_pos (show rank r key (h, w) < n + 1 by omega)]; simp
    · rw [if_neg h1.ne', if_neg (show ¬ rank r key (h, w) < n by omega), if_neg (show ¬ rank r key (h, w) < n + 1 by omega)]; simp

theorem wsum_at (u : FVec Ideal S96x128x128 .f32) (v : FVec Ideal S128x128 .f32) (c : Fin 96) :
    @Eq EReal (wsum u v (ix4 0 c 0 0)) (∑ h : Fin 128, ∑ w : Fin 128, (u (ix3 c h w) : EReal) * (v (ix2 h w) : EReal)) := by
  pointwise [wsum, up]

end Cert.KernelIdeal.Val
-- ==== Proof.V.KVal.lean ====
module

public import proofs.«01_k».proof.Proof.V.RoundVal
public import proofs.«01_k».proof.Proof.V.Model

@[expose] public section
set_option maxRecDepth 16384

/-! One grid point of the kernel, read at an index: on a finite image its prototypes and similarity maps are the model's. -/

noncomputable section
namespace Cert.KernelIdeal.Val
open Cert.KernelIdeal Cert.KernelIdeal.Gen Cert.KernelIdeal.Body
open Idealize.ShloMosaic Cert.Val

/-- A sum taken in eight strided parts of sixteen is the whole sum. -/
theorem fold8 {M : Type} [AddCommMonoid M] (g : Fin 128 → M) :
    ∑ b : Fin 8, (g ⟨b, by omega⟩ + g ⟨8 + b, by omega⟩ + g ⟨16 + b, by omega⟩ + g ⟨24 + b, by omega⟩ + g ⟨32 + b, by omega⟩
      + g ⟨40 + b, by omega⟩ + g ⟨48 + b, by omega⟩ + g ⟨56 + b, by omega⟩ + g ⟨64 + b, by omega⟩ + g ⟨72 + b, by omega⟩
      + g ⟨80 + b, by omega⟩ + g ⟨88 + b, by omega⟩ + g ⟨96 + b, by omega⟩ + g ⟨104 + b, by omega⟩ + g ⟨112 + b, by omega⟩
      + g ⟨120 + b, by omega⟩) = ∑ h, g h := by
  have e := Fintype.sum_equiv (finProdFinEquiv (m := 16) (n := 8)) (fun p => g (finProdFinEquiv p)) g fun _ => rfl
  rw [← e, Fintype.sum_prod_type_right]
  refine Finset.sum_congr rfl fun b _ => ?_
  have e0 : g ⟨b, by omega⟩ = g (finProdFinEquiv (m := 16) (n := 8) (0, b)) := congrArg g (Fin.ext (by simp [finProdFinEquiv]))
  rw [e0]
  simp only [Fin.sum_univ_castSucc, Fin.sum_univ_zero, zero_add]
  have k : ∀ (a : Fin 16) (m : Fin 128), (m : ℕ) = 8 * a + b → g m = g (finProdFinEquiv (m := 16) (n := 8) (a, b)) := by
    intro a m h
    refine congrArg g (Fin.ext ?_)
    simp [finProdFinEquiv, h, add_comm]
  iterate 15 (refine congrArg₂ (· + ·) ?_ (k _ _ ?_))
  · rfl
  all_goals simp

theorem posBit_iff (a : ℝ) : posBit (F := Ideal) (a : EReal) = 1#1 ↔ 0 < a := by
  have e : posBit (F := Ideal) (a : EReal)
      = IntOp.cmpi .ne (BitVec.setWidth 32 (BitVec.ofBool (decide ((0 : EReal) < (a : EReal))))) 0#32 := by
    rw [← Ideal.ofBits_zero_f32]; rfl
  rw [e]
  by_cases h : 0 < a
  · simp [IntOp.cmpi, h]
  · simp [IntOp.cmpi, h]

theorem one_bit (b : Bool) : ((((BitVec.setWidth 32 (BitVec.ofBool b)).toInt : ℝ)) : EReal) = ((if b then (1 : ℝ) else 0 : ℝ) : EReal) := by
  cases b <;> simp

theorem count_eq : Ideal.ofBits .f32 1182793728#32 = ((16384 : ℝ) : EReal) := by
  simp [Ideal.ofBits, Ideal.ieee]
  rw [← EReal.coe_mul]; norm_num

section Block
variable (X : Vec Ideal S1x96x128x128 .f32) (W : Vec Ideal S1x96x1x1 .f32) (x : Img) (u v : Fin 96 → ℝ) (t : ℝ)
variable (hx : ∀ c h w, (X (ix4 0 c h w) : EReal) = (x c h w : EReal))
variable (hw : ∀ c, (W (ix4 0 c 0 0) : EReal) = ((10 * (u c - v c) : ℝ) : EReal))

include hx in
theorem x68 (c : Fin 96) (h w : Fin 128) : @Eq EReal (k0_pay68 (F := Ideal) X (ix3 c h w)) (x c h w : EReal) := by
  rw [← hx]; pointwise [k0_pay68]

include hx in
theorem x69 (h w : Fin 128) : @Eq EReal (k0_pay69 (F := Ideal) X (ix2 h w)) ((1 / qn x h w : ℝ) : EReal) := by
  have e : @Eq EReal (k0_pay69 (F := Ideal) X (ix2 h w))
      (Ideal.div 1 (max (Ideal.sqrt (∑ c, (k0_pay68 (F := Ideal) X (ix3 c h w) : EReal) * (k0_pay68 (F := Ideal) X (ix3 c h w) : EReal)))
        (Ideal.ofBits .f32 841731191#32))) := by
    pointwise [k0_pay69]
  rw [e]
  simp only [x68 X x hx]
  rw [nrm_real, ← EReal.coe_one, div_real _ (nrm_pos _).ne']
  rfl

include hx hw in
theorem x70 (h w : Fin 128) : @Eq EReal (k0_pay70 (F := Ideal) X W (ix2 h w)) (conf x u v (h, w) : EReal) := by
  have e : @Eq EReal (k0_pay70 (F := Ideal) X W (ix2 h w))
      (Ideal.div 1 (1 + Ideal.exp (0 - (∑ c, (k0_pay68 (F := Ideal) X (ix3 c h w) : EReal) * (W (ix4 0 c 0 0) : EReal))
        * (k0_pay69 (F := Ideal) X (ix2 h w) : EReal)))) := by
    pointwise [k0_pay70]
  rw [e]
  simp only [x68 X x hx, x69 X x hx, hw]
  rw [dot_real, ← EReal.coe_mul, ← EReal.coe_zero, ← EReal.coe_sub, Ideal.exp_coe, ← EReal.coe_one, ← EReal.coe_add,
    div_real _ (by positivity)]
  congr 1
  unfold conf score
  have hd : 0 - (∑ c, x c h w * (10 * (u c - v c))) * (1 / qn x h w)
      = -((∑ c, x c h w * u c) / qn x h w * 10 - (∑ c, x c h w * v c) / qn x h w * 10) := by
    have : ∑ c, x c h w * (10 * (u c - v c)) = 10 * (∑ c, x c h w * u c) - 10 * ∑ c, x c h w * v c := by
      rw [Finset.mul_sum, Finset.mul_sum, ← Finset.sum_sub_distrib]
      exact Finset.sum_congr rfl fun c _ => by ring
    rw [this]; ring
  rw [hd]

include hx hw in
theorem x71 (h w : Fin 128) : @Eq EReal (k0_pay71 (F := Ideal) X W (t : EReal) (ix2 h w)) (msk (conf x u v) t (h, w) : EReal) := by
  have e : @Eq EReal (k0_pay71 (F := Ideal) X W (t : EReal) (ix2 h w))
      ((((BitVec.setWidth 32 (BitVec.ofBool (decide ((t : EReal) < (k0_pay70 (F := Ideal) X W (ix2 h w) : EReal))))).toInt : ℝ)) : EReal) := by
    pointwise [k0_pay71]
    rfl
  rw [e, one_bit, x70 X W x u v hx hw]
  unfold msk
  simp

include hx hw in
theorem x72 (c : Fin 96) (h w : Fin 128) :
    @Eq EReal (k0_pay72 (F := Ideal) X W (t : EReal) (ix3 c h w)) ((x c h w * msk (conf x u v) t (h, w) : ℝ) : EReal) := by
  have e : @Eq EReal (k0_pay72 (F := Ideal) X W (t : EReal) (ix3 c h w))
      ((k0_pay68 (F := Ideal) X (ix3 c h w) : EReal) * (k0_pay71 (F := Ideal) X W (t : EReal) (ix2 h w) : EReal)) := by
    pointwise [k0_pay72]
  rw [e, x68 X x hx, x71 X W x u v t hx hw, EReal.coe_mul]

include hx hw in
/-- The masked sum, folded from eight rows. -/
theorem x74 (c : Fin 96) :
    @Eq EReal (k0_pay74 (k0_pay72 (F := Ideal) X W (t : EReal)) (k0_pay73 (F := Ideal) X W (t : EReal)) (ix4 0 c 0 0))
      ((∑ h, ∑ w, x c h w * msk (conf x u v) t (h, w) : ℝ) : EReal) := by
  simp only [← coe_sum, ← x72 X W x u v t hx hw]
  rw [← fold8]
  simp only [← Finset.sum_add_distrib]
  pointwise [k0_pay74, k0_pay73]

include hx hw in
/-- The number of passing pixels. -/
theorem x76 : @Eq EReal (k0_pay76 (F := Ideal) (k0_pay71 X W (t : EReal))) (cnt (conf x u v) t : EReal) := by
  unfold cnt
  simp only [← coe_sum, ← x71 X W x u v t hx hw]
  rw [← fold8]
  simp only [← Finset.sum_add_distrib]
  pointwise [k0_pay76]

include hx hw in
/-- The number of the others. -/
theorem x77 : @Eq EReal (k0_pay77 (F := Ideal) (k0_pay71 X W (t : EReal))) ((16384 - cnt (conf x u v) t : ℝ) : EReal) := by
  rw [EReal.coe_sub, ← count_eq, ← x76 X W x u v t hx hw]
  pointwise [k0_pay77]

include hx hw in
/-- The sum over the whole image, folded from eight rows. -/
theorem x75 (c : Fin 96) :
    ∑ r : Fin 8, (k0_pay75 (F := Ideal) (k0_pay68 X) (ix3 c r 0) : EReal) = ((∑ h, ∑ w, x c h w : ℝ) : EReal) := by
  simp only [← coe_sum, ← x68 X x hx]
  rw [← fold8]
  simp only [← Finset.sum_add_distrib]
  refine Finset.sum_congr rfl fun r _ => ?_
  pointwise [k0_pay75]

include hx hw in
theorem fgB_at (c : Fin 96) : @Eq EReal (fgB (F := Ideal) X W (t : EReal) (ix4 0 c 0 0)) (fgr x u v t c : EReal) := by
  unfold fgB fgpV fgr proto
  rw [x76 X W x u v t hx hw]
  by_cases hc : 0 < cnt (conf x u v) t
  · rw [if_pos ((posBit_iff _).2 hc), if_pos hc]
    have e : @Eq EReal (k0_pay78 (F := Ideal) (k0_pay71 X W (t : EReal))
        (k0_pay74 (k0_pay72 X W (t : EReal)) (k0_pay73 X W (t : EReal))) (ix4 0 c 0 0))
        (Ideal.div (k0_pay74 (k0_pay72 (F := Ideal) X W (t : EReal)) (k0_pay73 (F := Ideal) X W (t : EReal)) (ix4 0 c 0 0) : EReal)
          (k0_pay76 (F := Ideal) (k0_pay71 X W (t : EReal)))) := by
      pointwise [k0_pay78]
    rw [e, x74 X W x u v t hx hw, x76 X W x u v t hx hw, div_real _ hc.ne']
  · rw [if_neg (fun h => hc ((posBit_iff _).1 h)), if_neg hc, topFg_eq]
    have e : @Eq EReal (divf (wsum (F := Ideal) (k0_pay68 X) (wr (k0_pay70 X W) 12)) twelve (ix4 0 c 0 0))
        (Ideal.div (wsum (F := Ideal) (k0_pay68 X) (wr (k0_pay70 X W) 12) (ix4 0 c 0 0) : EReal) (Ideal.ofBits .f32 1094713344#32)) := by
      pointwise [twelve]
    have ht : ∀ h w, ((if rank (conf x u v) key (h, w) < 12 then 1 else 0 : EReal)) = ((top (conf x u v) (h, w) : ℝ) : EReal) := by
      intro h w; unfold top; split <;> simp
    rw [e, wsum_at]
    simp only [x68 X x hx, wr_at (k0_pay70 X W) (conf x u v) (fun h w => x70 X W x u v hx hw h w) (n := 12) (by norm_num), ht,
      ← EReal.coe_mul, coe_sum]
    rw [twelve_eq, div_real _ (by norm_num)]

include hx hw in
theorem bgB_at (hne : ∀ p, conf x u v p ≠ t) (c : Fin 96) :
    @Eq EReal (bgB (F := Ideal) X W (t : EReal) (ix4 0 c 0 0)) (bgr x u v t c : EReal) := by
  unfold bgB bgpV bgr proto
  rw [x77 X W x u v t hx hw, cnt_compl _ _ hne, sum_compl x _ _ hne]
  by_cases hc : 0 < 16384 - cnt (conf x u v) t
  · rw [if_pos ((posBit_iff _).2 hc), if_pos hc]
    have e : @Eq EReal (k0_pay80 (F := Ideal) (k0_pay71 X W (t : EReal))
        (k0_pay74 (k0_pay72 X W (t : EReal)) (k0_pay73 X W (t : EReal))) (k0_pay75 (k0_pay68 X)) (ix4 0 c 0 0))
        (Ideal.div (∑ r : Fin 8, (k0_pay75 (F := Ideal) (k0_pay68 X) (ix3 c r 0) : EReal)
            - (k0_pay74 (k0_pay72 (F := Ideal) X W (t : EReal)) (k0_pay73 (F := Ideal) X W (t : EReal)) (ix4 0 c 0 0) : EReal))
          (k0_pay77 (F := Ideal) (k0_pay71 X W (t : EReal)))) := by
      pointwise [k0_pay80]
    rw [e, x75 X W x u v hx hw, x74 X W x u v t hx hw, x77 X W x u v t hx hw, ← EReal.coe_sub, div_real _ hc.ne']
  · rw [if_neg (fun h => hc ((posBit_iff _).1 h)), if_neg hc, topBg_eq]
    have e : @Eq EReal (divf (wsum (F := Ideal) (k0_pay68 X) (wr (k0_pay38 (k0_pay70 X W)) 12)) twelve (ix4 0 c 0 0))
        (Ideal.div (wsum (F := Ideal) (k0_pay68 X) (wr (k0_pay38 (k0_pay70 X W)) 12) (ix4 0 c 0 0) : EReal) (Ideal.ofBits .f32 1094713344#32)) := by
      pointwise [twelve]
    have h38 : ∀ h w, @Eq EReal (k0_pay38 (F := Ideal) (k0_pay70 X W) (ix2 h w)) ((1 - conf x u v (h, w) : ℝ) : EReal) := by
      intro h w
      rw [EReal.coe_sub, ← x70 X W x u v hx hw, EReal.coe_one]
      pointwise [k0_pay38]
    have ht : ∀ h w, ((if rank (fun p => 1 - conf x u v p) key (h, w) < 12 then 1 else 0 : EReal))
        = ((top (fun p => 1 - conf x u v p) (h, w) : ℝ) : EReal) := by
      intro h w; unfold top; split <;> simp
    rw [e, wsum_at]
    simp only [x68 X x hx, wr_at (k0_pay38 (k0_pay70 X W)) (fun p => 1 - conf x u v p) h38 (n := 12) (by norm_num), ht,
      ← EReal.coe_mul, coe_sum]
    rw [twelve_eq, div_real _ (by norm_num)]

/-- The sum of squares of a prototype, taken over all the axes at once. -/
theorem sq_total (b : FVec Ideal S1x96x1x1 .f32) :
    @Eq EReal (Ideal.reduceAdd reduces_S1x1x96x1x1_S1 (shapeCast S1x1x96x1x1 (mulf b b) shapeCasts_S1x96x1x1_S1x1x96x1x1) (ix1 0))
      (∑ c : Fin 96, (b (ix4 0 c 0 0) : EReal) * (b (ix4 0 c 0 0) : EReal)) := by
  rw [Ideal.reduceAdd_total _ (fun b => by fin_cases b; rfl)]
  let e : Fin 96 ≃ S1x1x96x1x1.Idx :=
    { toFun := fun c => ix5 0 0 c 0 0
      invFun := fun i => i 2
      left_inv := fun c => rfl
      right_inv := fun i => by idx_vars i; simp [Subsingleton.elim _ (0 : Fin 1)] }
  rw [← Equiv.sum_comp e]
  refine Finset.sum_congr rfl fun c _ => ?_
  show @Eq EReal (shapeCast S1x1x96x1x1 (mulf b b) shapeCasts_S1x96x1x1_S1x1x96x1x1 (ix5 0 0 c 0 0)) _
  pointwise []

include hx in
/-- The similarity map to a prototype `b`. -/
theorem x82 (b : FVec Ideal S1x96x1x1 .f32) (p : Fin 96 → ℝ) (hb : ∀ c, (b (ix4 0 c 0 0) : EReal) = (p c : EReal)) (h w : Fin 128) :
    @Eq EReal (k0_pay82 (F := Ideal) (k0_pay68 X) (k0_pay69 X) b (ix2 h w)) (act x p h w : EReal) := by
  have e : @Eq EReal (k0_pay82 (F := Ideal) (k0_pay68 X) (k0_pay69 X) b (ix2 h w))
      ((∑ c, (k0_pay68 (F := Ideal) X (ix3 c h w) : EReal) * Ideal.div (b (ix4 0 c 0 0) : EReal)
        (max (Ideal.sqrt (Ideal.reduceAdd reduces_S1x1x96x1x1_S1 (shapeCast S1x1x96x1x1 (mulf b b) shapeCasts_S1x96x1x1_S1x1x96x1x1) (ix1 0)))
          (Ideal.ofBits .f32 841731191#32))) * (k0_pay69 (F := Ideal) X (ix2 h w) : EReal)) := by
    pointwise [k0_pay82]
    rfl
  rw [e, sq_total]
  simp only [hb, x68 X x hx, x69 X x hx]
  rw [nrm_real]
  simp only [div_real _ (nrm_pos p).ne']
  rw [dot_real, ← EReal.coe_mul]
  congr 1
  unfold act
  simp only [mul_div_assoc']
  rw [← Finset.sum_div, mul_one, div_div, mul_comm (nrm p)]

theorem pay83_eq : k0_pay83 (F := Ideal) = k0_pay82 (F := Ideal) := rfl

include hx hw in
theorem aP_at (h w : Fin 128) : @Eq EReal (aP (F := Ideal) X W (t : EReal) (ix2 h w)) (act x (fgr x u v t) h w : EReal) :=
  x82 X x hx _ _ (fun c => fgB_at X W x u v t hx hw c) h w

include hx hw in
theorem dP_at (hne : ∀ p, conf x u v p ≠ t) (h w : Fin 128) :
    @Eq EReal (dP (F := Ideal) X W (t : EReal) (ix2 h w)) (act x (bgr x u v t) h w : EReal) := by
  unfold dP
  rw [pay83_eq]
  exact x82 X x hx _ _ (fun c => bgB_at X W x u v t hx hw hne c) h w

include hx hw in
theorem aB_at (h w : Fin 128) : @Eq EReal (aB (F := Ideal) X W (t : EReal) (ix3 0 h w)) (act x (fgr x u v t) h w : EReal) := by
  rw [← aP_at X W x u v t hx hw]
  pointwise [aB, aP, k0_pay84]

include hx hw in
theorem dB_at (hne : ∀ p, conf x u v p ≠ t) (h w : Fin 128) :
    @Eq EReal (dB (F := Ideal) X W (t : EReal) (ix3 0 h w)) (act x (bgr x u v t) h w : EReal) := by
  rw [← dP_at X W x u v t hx hw hne]
  pointwise [dB, dP, k0_pay85]

end Block

end Cert.KernelIdeal.Val
-- ==== Proof.V.Ext.lean ====
module

public import proofs.«01_k».proof.Proof.V.KVal
public import proofs.«01_k».proof.Proof.I.Region0

@[expose] public section
set_option maxRecDepth 16384

/-! The four extremes the first call accumulates: each is the least or greatest value of its map over all images and pixels. -/

noncomputable section
namespace Cert.KernelIdeal.Val
open Cert.KernelIdeal Cert.KernelIdeal.Gen Cert.KernelIdeal.Body
open Idealize.ShloMosaic Cert.Val

/-- The least value of each strided column of a map, and the greatest. -/
def colMin (p : FVec Ideal S128x128 .f32) : FVec Ideal S8x128 .f32 := k0_pay90 p (k0_pay89 p)
def colMax (p : FVec Ideal S128x128 .f32) : FVec Ideal S8x128 .f32 := k0_pay91 p

theorem colMin_at (p : FVec Ideal S128x128 .f32) (r : Fin 8) (l : Fin 128) (g : Fin 128 → EReal) (hg : g = fun h => (p (ix2 h l) : EReal)) :
    @Eq EReal (colMin p (ix2 r l)) (min (min (min (min (min (min (min (min (min (min (min (min (min (min (min
      (g ⟨r, by omega⟩) (g ⟨8 + r, by omega⟩)) (g ⟨16 + r, by omega⟩)) (g ⟨24 + r, by omega⟩)) (g ⟨32 + r, by omega⟩))
      (g ⟨40 + r, by omega⟩)) (g ⟨48 + r, by omega⟩)) (g ⟨56 + r, by omega⟩)) (g ⟨64 + r, by omega⟩)) (g ⟨72 + r, by omega⟩))
      (g ⟨80 + r, by omega⟩)) (g ⟨88 + r, by omega⟩)) (g ⟨96 + r, by omega⟩)) (g ⟨104 + r, by omega⟩)) (g ⟨112 + r, by omega⟩))
      (g ⟨120 + r, by omega⟩)) := by
  subst hg
  pointwise [colMin, k0_pay90, k0_pay89]

theorem colMax_at (p : FVec Ideal S128x128 .f32) (r : Fin 8) (l : Fin 128) (g : Fin 128 → EReal) (hg : g = fun h => (p (ix2 h l) : EReal)) :
    @Eq EReal (colMax p (ix2 r l)) (max (max (max (max (max (max (max (max (max (max (max (max (max (max (max
      (g ⟨r, by omega⟩) (g ⟨8 + r, by omega⟩)) (g ⟨16 + r, by omega⟩)) (g ⟨24 + r, by omega⟩)) (g ⟨32 + r, by omega⟩))
      (g ⟨40 + r, by omega⟩)) (g ⟨48 + r, by omega⟩)) (g ⟨56 + r, by omega⟩)) (g ⟨64 + r, by omega⟩)) (g ⟨72 + r, by omega⟩))
      (g ⟨80 + r, by omega⟩)) (g ⟨88 + r, by omega⟩)) (g ⟨96 + r, by omega⟩)) (g ⟨104 + r, by omega⟩)) (g ⟨112 + r, by omega⟩))
      (g ⟨120 + r, by omega⟩)) := by
  subst hg
  pointwise [colMax, k0_pay91]

/-- A property of sixteen strided rows is one of every row congruent to the first. -/
theorem rows16 (P : Fin 128 → Prop) (r : Fin 8) :
    (P ⟨r, by omega⟩ ∧ P ⟨8 + r, by omega⟩ ∧ P ⟨16 + r, by omega⟩ ∧ P ⟨24 + r, by omega⟩ ∧ P ⟨32 + r, by omega⟩
      ∧ P ⟨40 + r, by omega⟩ ∧ P ⟨48 + r, by omega⟩ ∧ P ⟨56 + r, by omega⟩ ∧ P ⟨64 + r, by omega⟩ ∧ P ⟨72 + r, by omega⟩
      ∧ P ⟨80 + r, by omega⟩ ∧ P ⟨88 + r, by omega⟩ ∧ P ⟨96 + r, by omega⟩ ∧ P ⟨104 + r, by omega⟩ ∧ P ⟨112 + r, by omega⟩
      ∧ P ⟨120 + r, by omega⟩) ↔ ∀ h : Fin 128, (h : ℕ) % 8 = r → P h := by
  constructor
  · rintro ⟨h0, h1, h2, h3, h4, h5, h6, h7, h8, h9, h10, h11, h12, h13, h14, h15⟩ h hr
    obtain ⟨k, hk⟩ : ∃ k, k = (h : ℕ) / 8 := ⟨_, rfl⟩
    have hlt : k < 16 := by omega
    have he : ∀ m : Fin 128, (m : ℕ) = 8 * k + r → P m → P h := fun m hm hP => by
      rwa [show h = m from Fin.ext (by omega)]
    interval_cases k
    · exact he _ (by simp) h0
    · exact he _ (by simp) h1
    · exact he _ (by simp) h2
    · exact he _ (by simp) h3
    · exact he _ (by simp) h4
    · exact he _ (by simp) h5
    · exact he _ (by simp) h6
    · exact he _ (by simp) h7
    · exact he _ (by simp) h8
    · exact he _ (by simp) h9
    · exact he _ (by simp) h10
    · exact he _ (by simp) h11
    · exact he _ (by simp) h12
    · exact he _ (by simp) h13
    · exact he _ (by simp) h14
    · exact he _ (by simp) h15
  · intro H
    refine ⟨?_, ?_, ?_, ?_, ?_, ?_, ?_, ?_, ?_, ?_, ?_, ?_, ?_, ?_, ?_, ?_⟩ <;>
      exact H _ (by have := r.isLt; simp only []; omega)

theorem le_colMin (p : FVec Ideal S128x128 .f32) (r : Fin 8) (l : Fin 128) (z : EReal) :
    z ≤ (colMin p (ix2 r l) : EReal) ↔ ∀ h : Fin 128, (h : ℕ) % 8 = r → z ≤ (p (ix2 h l) : EReal) := by
  rw [colMin_at p r l _ rfl, ← rows16]
  simp only [le_min_iff, and_assoc]

theorem colMax_le (p : FVec Ideal S128x128 .f32) (r : Fin 8) (l : Fin 128) (z : EReal) :
    (colMax p (ix2 r l) : EReal) ≤ z ↔ ∀ h : Fin 128, (h : ℕ) % 8 = r → (p (ix2 h l) : EReal) ≤ z := by
  rw [colMax_at p r l _ rfl, ← rows16]
  simp only [max_le_iff, and_assoc]

/-! ## The extremes carried from image to image -/

theorem keep_at (v : FVec Ideal S8x128 .f32) (r : Fin 8) (l : Fin 128) :
    @Eq EReal (k0_pay1 v (ix2 r l)) (v (ix2 r l)) := by pointwise [k0_pay1]
theorem lower_at (v w : FVec Ideal S8x128 .f32) (r : Fin 8) (l : Fin 128) :
    @Eq EReal (k0_pay5 v w (ix2 r l)) (min (w (ix2 r l)) (v (ix2 r l))) := by pointwise [k0_pay5]
theorem upper_at (v w : FVec Ideal S8x128 .f32) (r : Fin 8) (l : Fin 128) :
    @Eq EReal (k0_pay6 v w (ix2 r l)) (max (w (ix2 r l)) (v (ix2 r l))) := by pointwise [k0_pay6]

/-- A running minimum over `n + 1` vectors. -/
theorem run_min (s : ℕ → FVec Ideal S8x128 .f32) (a : ℕ → FVec Ideal S8x128 .f32)
    (hs : ∀ n, s (n + 1) = if n = 0 then k0_pay1 (a n) else k0_pay5 (a n) (s n)) (n : ℕ) (r : Fin 8) (l : Fin 128) (z : EReal) :
    z ≤ (s (n + 1) (ix2 r l) : EReal) ↔ ∀ k ≤ n, z ≤ (a k (ix2 r l) : EReal) := by
  induction n with
  | zero =>
    rw [hs, if_pos rfl, keep_at]
    exact ⟨fun h k hk => by rwa [Nat.le_zero.1 hk], fun h => h 0 le_rfl⟩
  | succ n ih =>
    rw [hs, if_neg (Nat.succ_ne_zero n), lower_at, le_min_iff, ih]
    exact ⟨fun h k hk => by
      rcases Nat.le_succ_iff.1 hk with h1 | h1
      · exact h.1 k h1
      · rw [h1]; exact h.2, fun h => ⟨fun k hk => h k (hk.trans (Nat.le_succ n)), h (n + 1) le_rfl⟩⟩

theorem run_max (s : ℕ → FVec Ideal S8x128 .f32) (a : ℕ → FVec Ideal S8x128 .f32)
    (hs : ∀ n, s (n + 1) = if n = 0 then k0_pay1 (a n) else k0_pay6 (a n) (s n)) (n : ℕ) (r : Fin 8) (l : Fin 128) (z : EReal) :
    (s (n + 1) (ix2 r l) : EReal) ≤ z ↔ ∀ k ≤ n, (a k (ix2 r l) : EReal) ≤ z := by
  induction n with
  | zero =>
    rw [hs, if_pos rfl, keep_at]
    exact ⟨fun h k hk => by rwa [Nat.le_zero.1 hk], fun h => h 0 le_rfl⟩
  | succ n ih =>
    rw [hs, if_neg (Nat.succ_ne_zero n), upper_at, max_le_iff, ih]
    exact ⟨fun h k hk => by
      rcases Nat.le_succ_iff.1 hk with h1 | h1
      · exact h.1 k h1
      · rw [h1]; exact h.2, fun h => ⟨fun k hk => h k (hk.trans (Nat.le_succ n)), h (n + 1) le_rfl⟩⟩

/-! ## The four numbers flushed at the end -/

section Flush
variable (a b d e : Vec Ideal S8x128 .f32)

theorem flush0 : @Eq EReal (k0_pay9 (F := Ideal) a b d e (ix2 0 0)) (Finset.fold min ⊤ (fun x : Fin 8 × Fin 128 => (a (ix2 x.1 x.2) : EReal)) Finset.univ) := by
  rw [← ofBits_high]; pointwise [k0_pay9]
theorem flush1 : @Eq EReal (k0_pay9 (F := Ideal) a b d e (ix2 0 1)) (Finset.fold max ⊥ (fun x : Fin 8 × Fin 128 => (b (ix2 x.1 x.2) : EReal)) Finset.univ) := by
  rw [← ofBits_low]; pointwise [k0_pay9]
  rfl
theorem flush2 : @Eq EReal (k0_pay9 (F := Ideal) a b d e (ix2 0 2)) (Finset.fold min ⊤ (fun x : Fin 8 × Fin 128 => (d (ix2 x.1 x.2) : EReal)) Finset.univ) := by
  rw [← ofBits_high]; pointwise [k0_pay9]
  rfl
theorem flush3 : @Eq EReal (k0_pay9 (F := Ideal) a b d e (ix2 0 3)) (Finset.fold max ⊥ (fun x : Fin 8 × Fin 128 => (e (ix2 x.1 x.2) : EReal)) Finset.univ) := by
  rw [← ofBits_low]; pointwise [k0_pay9]
  rfl

end Flush

/-! ## Least and greatest over all images -/

variable (V : Dev nD → Valuation τ sig (Elt Ideal)) (c : Dev nD)

/-- The two maps of image `k`. -/
abbrev aM (k : ℕ) : FVec Ideal S128x128 .f32 := aP (xA V c (pnt k)) (wA V c (pnt k)) (thW (thA V c (pnt k)))
abbrev dM (k : ℕ) : FVec Ideal S128x128 .f32 := dP (xA V c (pnt k)) (wA V c (pnt k)) (thW (thA V c (pnt k)))

/-- The four numbers. -/
abbrev mmF : FVec Ideal S1x8 .f32 := k0_pay9 (sMin V c 8) (sMax V c 8) (tMin V c 8) (tMax V c 8)

theorem all_rows (P : ℕ → Fin 128 → Fin 128 → Prop) :
    (∀ x : Fin 8 × Fin 128, ∀ k ≤ 7, ∀ h : Fin 128, (h : ℕ) % 8 = x.1 → P k h x.2) ↔ ∀ k ≤ 7, ∀ h w, P k h w :=
  ⟨fun H k hk h w => H (⟨(h : ℕ) % 8, Nat.mod_lt _ (by decide)⟩, w) k hk h rfl, fun H x k hk h _ => H k hk h x.2⟩

theorem le_mm0 (z : EReal) : z ≤ (mmF V c (ix2 0 0) : EReal) ↔ ∀ k ≤ 7, ∀ h w, z ≤ (aM V c k (ix2 h w) : EReal) := by
  rw [mmF, flush0, Finset.le_fold_min, ← all_rows fun k h w => z ≤ (aM V c k (ix2 h w) : EReal)]
  simp only [le_top, true_and, Finset.mem_univ, forall_true_left]
  refine forall_congr' fun x => ?_
  rw [run_min (sMin V c) (fun k => colMin (aM V c k)) (fun n => rfl) 7 x.1 x.2 z]
  exact forall_congr' fun k => forall_congr' fun _ => le_colMin _ _ _ _

theorem mm1_le (z : EReal) : (mmF V c (ix2 0 1) : EReal) ≤ z ↔ ∀ k ≤ 7, ∀ h w, (aM V c k (ix2 h w) : EReal) ≤ z := by
  rw [mmF, flush1, Finset.fold_max_le, ← all_rows fun k h w => (aM V c k (ix2 h w) : EReal) ≤ z]
  simp only [bot_le, true_and, Finset.mem_univ, forall_true_left]
  refine forall_congr' fun x => ?_
  rw [run_max (sMax V c) (fun k => colMax (aM V c k)) (fun n => rfl) 7 x.1 x.2 z]
  exact forall_congr' fun k => forall_congr' fun _ => colMax_le _ _ _ _

theorem le_mm2 (z : EReal) : z ≤ (mmF V c (ix2 0 2) : EReal) ↔ ∀ k ≤ 7, ∀ h w, z ≤ (dM V c k (ix2 h w) : EReal) := by
  rw [mmF, flush2, Finset.le_fold_min, ← all_rows fun k h w => z ≤ (dM V c k (ix2 h w) : EReal)]
  simp only [le_top, true_and, Finset.mem_univ, forall_true_left]
  refine forall_congr' fun x => ?_
  rw [run_min (tMin V c) (fun k => colMin (dM V c k)) (fun n => rfl) 7 x.1 x.2 z]
  exact forall_congr' fun k => forall_congr' fun _ => le_colMin _ _ _ _

theorem mm3_le (z : EReal) : (mmF V c (ix2 0 3) : EReal) ≤ z ↔ ∀ k ≤ 7, ∀ h w, (dM V c k (ix2 h w) : EReal) ≤ z := by
  rw [mmF, flush3, Finset.fold_max_le, ← all_rows fun k h w => (dM V c k (ix2 h w) : EReal) ≤ z]
  simp only [bot_le, true_and, Finset.mem_univ, forall_true_left]
  refine forall_congr' fun x => ?_
  rw [run_max (tMax V c) (fun k => colMax (dM V c k)) (fun n => rfl) 7 x.1 x.2 z]
  exact forall_congr' fun k => forall_congr' fun _ => colMax_le _ _ _ _

end Cert.KernelIdeal.Val
end
-- ==== Proof.V.Arr.lean ====
module

public import proofs.«01_k».proof.Proof.V.Ext
public import proofs.«01_k».proof.Proof.V.Ev
public import proofs.«01_k».proof.Proof.I.Frame
public import Idealize.ShloMosaic.Lib.Claim

@[expose] public section
set_option maxRecDepth 16384

/-! The kernel's arrays: what its first host operations compute, what each call reads, and what each call leaves. -/

noncomputable section
namespace Cert.KernelIdeal.Val
open Cert.KernelIdeal Cert.KernelIdeal.Gen Cert.KernelIdeal.Body
open Idealize.ShloMosaic Idealize.ShloMosaic.TcCoe Cert.Val

variable (m : (ℓ : Loc nD τ sig) → Buf (Elt Ideal) ℓ) (c : Dev nD)

/-- The four arguments, and the arrays between the calls. -/
abbrev A0 : FVec Ideal S8x96x1x1 .f32 := m ((c : Thread nD τ).loc main_arg0)
abbrev A1 : FVec Ideal S8x96x1x1 .f32 := m ((c : Thread nD τ).loc main_arg1)
abbrev A2 : FVec Ideal S8x96x128x128 .f32 := m ((c : Thread nD τ).loc main_arg2)
abbrev A3 : FVec Ideal S_ .f32 := m ((c : Thread nD τ).loc main_arg3)
abbrev T7 : FVec Ideal S2 .f32 := W1 m c main_v7
abbrev W29 : FVec Ideal S8x96x1x1 .f32 := W1 m c main_v29

theorem T7_at : @Eq EReal (T7 m c (ix1 0)) (Ideal.div 1 (1 + Ideal.exp (-(A3 m c ix0 : EReal)))) := by
  unfold T7 W1 V1
  entry_read
  pointwise

theorem W29_at (b : Fin 8) (k : Fin 96) : @Eq EReal (W29 m c (ix4 b k 0 0)) (Ideal.ofBits .f32 1092616192#32 *
    (Ideal.div (A0 m c (ix4 b k 0 0) : EReal) (max (Ideal.sqrt (∑ j, (A0 m c (ix4 b j 0 0) : EReal) * (A0 m c (ix4 b j 0 0) : EReal))) (Ideal.ofBits .f32 841731191#32))
      - Ideal.div (A1 m c (ix4 b k 0 0) : EReal) (max (Ideal.sqrt (∑ j, (A1 m c (ix4 b j 0 0) : EReal) * (A1 m c (ix4 b j 0 0) : EReal))) (Ideal.ofBits .f32 841731191#32)))) := by
  unfold W29 W1 V1
  entry_read
  pointwise

/-! ## What the first call reads -/

theorem W1_arg2 : W1 m c main_arg2 = A2 m c := (V1_of m c main_arg2 (by decide)).trans rfl

/-- A block index that starts at zero, or at the grid point's own place. -/
theorem start {i n x y : ℕ} (h : i = 0) (e : x = y) : i * n + x = y := by rw [h, e, Nat.zero_mul, Nat.zero_add]

theorem at0 : ∀ t : Fin cfg0.N, win0_0.index t 0 = 0 := by decide +kernel
theorem at1 : ∀ t : Fin cfg0.N, win0_1.index t 0 = t.val ∧ win0_1.index t 1 = 0 ∧ win0_1.index t 2 = 0 ∧ win0_1.index t 3 = 0 := by decide +kernel
theorem at2 : ∀ t : Fin cfg0.N, win0_2.index t 0 = t.val ∧ win0_2.index t 1 = 0 ∧ win0_2.index t 2 = 0 ∧ win0_2.index t 3 = 0 := by decide +kernel

theorem th_blk (b : Fin 8) : thW (thA (W1 m) c (pnt b)) = T7 m c (ix1 0) := by
  show W1 m c main_v7 (((cfg0.win 0).blk (pnt b)).view.emb (ix1 0)) = W1 m c main_v7 (ix1 0)
  refine congrArg (W1 m c main_v7) (funext fun a => Fin.ext ?_)
  fin_cases a
  blk_simp
  exact start (at0 _) rfl

theorem w_blk (b : Fin 8) (k : Fin 96) : wA (W1 m) c (pnt b) (ix4 0 k 0 0) = W29 m c (ix4 b k 0 0) := by
  show W1 m c main_v29 (((cfg0.win 1).blk (pnt b)).view.emb (ix4 0 k 0 0)) = W1 m c main_v29 (ix4 b k 0 0)
  refine congrArg (W1 m c main_v29) (funext fun a => Fin.ext ?_)
  fin_cases a <;> blk_simp
  · exact (at1 _).1.trans (Nat.mod_eq_of_lt b.isLt)
  · exact start (at1 _).2.1 rfl
  · exact (at1 _).2.2.1
  · exact (at1 _).2.2.2

theorem x_blk (b : Fin 8) (k : Fin 96) (h w : Fin 128) : xA (W1 m) c (pnt b) (ix4 0 k h w) = A2 m c (ix4 b k h w) := by
  rw [← W1_arg2]
  show W1 m c main_arg2 (((cfg0.win 2).blk (pnt b)).view.emb (ix4 0 k h w)) = W1 m c main_arg2 (ix4 b k h w)
  refine congrArg (W1 m c main_arg2) (funext fun a => Fin.ext ?_)
  fin_cases a <;> blk_simp
  · exact (at2 _).1.trans (Nat.mod_eq_of_lt b.isLt)
  · exact start (at2 _).2.1 rfl
  · exact start (at2 _).2.2.1 rfl
  · exact start (at2 _).2.2.2 rfl

/-! ## What it leaves -/

attribute [local irreducible] fgB bgB aB dB

/-- What the body leaves of image `t`, in each of the four blocks. -/
abbrev fgX (t : Fin cfg0.N) : FVec Ideal S1x96x1x1 .f32 := fgB (xA (W1 m) c t) (wA (W1 m) c t) (thW (thA (W1 m) c t))
abbrev bgX (t : Fin cfg0.N) : FVec Ideal S1x96x1x1 .f32 := bgB (xA (W1 m) c t) (wA (W1 m) c t) (thW (thA (W1 m) c t))
abbrev aX (t : Fin cfg0.N) : FVec Ideal S1x128x128 .f32 := aB (xA (W1 m) c t) (wA (W1 m) c t) (thW (thA (W1 m) c t))
abbrev dX (t : Fin cfg0.N) : FVec Ideal S1x128x128 .f32 := dB (xA (W1 m) c t) (wA (W1 m) c t) (thW (thA (W1 m) c t))

/-- An array put together of one block an image. -/
def stack4 (G : Fin cfg0.N → FVec Ideal S1x96x1x1 .f32) : FVec Ideal S8x96x1x1 .f32 := fun i => G (pnt (i 0)) (ix4 0 (i 1) 0 0)
def stack3 (G : Fin cfg0.N → FVec Ideal S1x128x128 .f32) : FVec Ideal S8x128x128 .f32 := fun i => G (pnt (i 0)) (ix3 0 (i 1) (i 2))

theorem stack4_blk (G : Fin cfg0.N → FVec Ideal S1x96x1x1 .f32) (t : Fin cfg0.N) (y : S1x96x1x1.Idx) (i : S8x96x1x1.Idx)
    (h0 : (i 0 : ℕ) = t.val) (h1 : (i 1 : ℕ) = (y 1 : ℕ)) : G t y = stack4 G i := by
  unfold stack4
  have ht : pnt (i 0) = t := by rw [h0]; exact pnt_val t
  rw [ht]
  refine congrArg (G t) (funext fun a => ?_)
  fin_cases a
  · exact Subsingleton.elim (α := Fin 1) _ _
  · exact Fin.ext h1.symm
  · exact Subsingleton.elim (α := Fin 1) _ _
  · exact Subsingleton.elim (α := Fin 1) _ _

theorem stack3_blk (G : Fin cfg0.N → FVec Ideal S1x128x128 .f32) (t : Fin cfg0.N) (y : S1x128x128.Idx) (i : S8x128x128.Idx)
    (h0 : (i 0 : ℕ) = t.val) (h1 : (i 1 : ℕ) = (y 1 : ℕ)) (h2 : (i 2 : ℕ) = (y 2 : ℕ)) : G t y = stack3 G i := by
  unfold stack3
  have ht : pnt (i 0) = t := by rw [h0]; exact pnt_val t
  rw [ht]
  refine congrArg (G t) (funext fun a => ?_)
  fin_cases a
  · exact Subsingleton.elim (α := Fin 1) _ _
  · exact Fin.ext h1.symm
  · exact Fin.ext h2.symm

theorem at3 : ∀ t : Fin cfg0.N, win0_3.index t 0 = t.val ∧ win0_3.index t 1 = 0 ∧ win0_3.index t 2 = 0 := by decide +kernel
theorem at4 : ∀ t : Fin cfg0.N, win0_4.index t 0 = t.val ∧ win0_4.index t 1 = 0 ∧ win0_4.index t 2 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel

theorem after6 (t : Fin cfg0.N) : (dat0 (W1 m) c).after 6 t = fgX m c t := rfl

theorem fg_arr : W2 m c main_v30_3 = stack4 (fgX m c) := by
  refine (Pipeline.afterRegion_arr (dat0 (W1 m) c) (W1 m c) launch0.win.arr_inj 6).trans ?_
  refine (dat0 (W1 m) c).arrAt_eq_of_covers 6 _ (by decide +kernel) fun t hf y => ?_
  refine (congrFun (after6 m c t) y).trans ?_
  refine stack4_blk (fgX m c) t y _ ?_ ?_
  · blk_simp
    exact (at6 t).1
  · blk_simp
    exact start (at6 t).2 rfl

theorem after7 (t : Fin cfg0.N) : (dat0 (W1 m) c).after 7 t = bgX m c t := rfl

theorem bg_arr : W2 m c main_v30_4 = stack4 (bgX m c) := by
  refine (Pipeline.afterRegion_arr (dat0 (W1 m) c) (W1 m c) launch0.win.arr_inj 7).trans ?_
  refine (dat0 (W1 m) c).arrAt_eq_of_covers 7 _ (by decide +kernel) fun t hf y => ?_
  refine (congrFun (after7 m c t) y).trans ?_
  refine stack4_blk (bgX m c) t y _ ?_ ?_
  · blk_simp
    exact (at7 t).1
  · blk_simp
    exact start (at7 t).2 rfl

theorem a_arr : W2 m c main_v30_0 = stack3 (aX m c) := by
  refine (Pipeline.afterRegion_arr (dat0 (W1 m) c) (W1 m c) launch0.win.arr_inj 3).trans ?_
  refine (dat0 (W1 m) c).arrAt_eq_of_covers 3 _ (by decide +kernel) fun t hf y => ?_
  refine stack3_blk (aX m c) t y _ ?_ ?_ ?_
  · blk_simp
    exact (at3 t).1
  · blk_simp
    exact start (at3 t).2.1 rfl
  · blk_simp
    exact start (at3 t).2.2 rfl

theorem d_arr : W2 m c main_v30_1 = stack3 (dX m c) := by
  refine (Pipeline.afterRegion_arr (dat0 (W1 m) c) (W1 m c) launch0.win.arr_inj 4).trans ?_
  refine (dat0 (W1 m) c).arrAt_eq_of_covers 4 _ (by decide +kernel) fun t hf y => ?_
  refine stack3_blk (dX m c) t y _ ?_ ?_ ?_
  · blk_simp
    exact (at4 t).1
  · blk_simp
    exact start (at4 t).2.1 rfl
  · blk_simp
    exact start (at4 t).2.2 rfl

theorem mm_arr : W2 m c main_v30_2 = mmF (W1 m) c := by
  refine (Pipeline.afterRegion_arr (dat0 (W1 m) c) (W1 m c) launch0.win.arr_inj 5).trans ?_
  refine (dat0 (W1 m) c).arrAt_eq_of_after_last 5 (pnt 7) (by decide +kernel) _ fun j => ?_
  rfl

/-! ## What the second call reads, and what it leaves -/

abbrev M31 : FVec Ideal S8 .f32 := W3 m c main_v31

theorem M31_at (k : Fin 8) : @Eq EReal (M31 m c (ix1 k)) (mmF (W1 m) c (ix2 0 k)) := by
  rw [← mm_arr]
  unfold M31 W3
  entry_read
  pointwise

/-- The reshape writes no other array. -/
theorem W3_kept (r : Ref sig .tc) (h : r ∉ hostOps1_W) : W3 m c r = W2 m c r :=
  StableHlo.after_of_writes_sub hostOps1 _ hostOps1_writes h

theorem W3_arg2 : W3 m c main_arg2 = A2 m c :=
  (W3_kept m c main_arg2 (by decide)).trans <|
    (Pipeline.afterRegion_keeps (dat0 (W1 m) c) (W1 m c) launch0.win.arr_inj (fun _ => rfl) main_arg2 (by decide)).trans (W1_arg2 m c)
theorem W3_a : W3 m c main_v30_0 = stack3 (aX m c) := (W3_kept m c main_v30_0 (by decide)).trans (a_arr m c)
theorem W3_d : W3 m c main_v30_1 = stack3 (dX m c) := (W3_kept m c main_v30_1 (by decide)).trans (d_arr m c)

theorem bt0 : ∀ t : Fin cfg1.N, win1_0.index t 0 = 0 := by decide +kernel
theorem bt1 : ∀ t : Fin cfg1.N, win1_1.index t 0 = t.val ∧ win1_1.index t 1 = 0 ∧ win1_1.index t 2 = 0 ∧ win1_1.index t 3 = 0 := by decide +kernel
theorem bt2 : ∀ t : Fin cfg1.N, win1_2.index t 0 = t.val ∧ win1_2.index t 1 = 0 ∧ win1_2.index t 2 = 0 := by decide +kernel
theorem bt3 : ∀ t : Fin cfg1.N, win1_3.index t 0 = t.val ∧ win1_3.index t 1 = 0 ∧ win1_3.index t 2 = 0 := by decide +kernel
theorem bt4 : ∀ t : Fin cfg1.N, win1_4.index t 0 = t.val ∧ win1_4.index t 1 = 0 ∧ win1_4.index t 2 = 0 ∧ win1_4.index t 3 = 0 := by decide +kernel

/-- The `b`th grid point of the second call. -/
abbrev qnt (n : ℕ) : Fin cfg1.N := ⟨n % 8, Nat.mod_lt n (by decide)⟩
theorem qnt_val (t : Fin cfg1.N) : qnt t.val = t := Fin.ext (Nat.mod_eq_of_lt t.isLt)

theorem mm_blk1 (b : Fin 8) (k : Fin 8) : mmC (W3 m) c (qnt b) (ix1 k) = M31 m c (ix1 k) := by
  show W3 m c main_v31 (((cfg1.win 0).blk (qnt b)).view.emb (ix1 k)) = W3 m c main_v31 (ix1 k)
  refine congrArg (W3 m c main_v31) (funext fun a => Fin.ext ?_)
  fin_cases a
  blk_simp
  exact start (bt0 _) rfl

theorem x_blk1 (b : Fin 8) (k : Fin 96) (h w : Fin 128) : xC (W3 m) c (qnt b) (ix4 0 k h w) = A2 m c (ix4 b k h w) := by
  rw [← W3_arg2]
  show W3 m c main_arg2 (((cfg1.win 1).blk (qnt b)).view.emb (ix4 0 k h w)) = W3 m c main_arg2 (ix4 b k h w)
  refine congrArg (W3 m c main_arg2) (funext fun a => Fin.ext ?_)
  fin_cases a <;> blk_simp
  · exact (bt1 _).1.trans (Nat.mod_eq_of_lt b.isLt)
  · exact start (bt1 _).2.1 rfl
  · exact start (bt1 _).2.2.1 rfl
  · exact start (bt1 _).2.2.2 rfl

theorem a_blk1 (b : Fin 8) (h w : Fin 128) : aC (W3 m) c (qnt b) (ix3 0 h w) = aX m c (pnt b) (ix3 0 h w) := by
  show W3 m c main_v30_0 (((cfg1.win 2).blk (qnt b)).view.emb (ix3 0 h w)) = _
  rw [W3_a]
  refine (stack3_blk (aX m c) (pnt b) (ix3 0 h w) _ ?_ ?_ ?_).symm
  · blk_simp
    exact (bt2 _).1
  · blk_simp
    exact start (bt2 _).2.1 rfl
  · blk_simp
    exact start (bt2 _).2.2 rfl

theorem d_blk1 (b : Fin 8) (h w : Fin 128) : dC (W3 m) c (qnt b) (ix3 0 h w) = dX m c (pnt b) (ix3 0 h w) := by
  show W3 m c main_v30_1 (((cfg1.win 3).blk (qnt b)).view.emb (ix3 0 h w)) = _
  rw [W3_d]
  refine (stack3_blk (dX m c) (pnt b) (ix3 0 h w) _ ?_ ?_ ?_).symm
  · blk_simp
    exact (bt3 _).1
  · blk_simp
    exact start (bt3 _).2.1 rfl
  · blk_simp
    exact start (bt3 _).2.2 rfl

/-- What the second call leaves of image `t`, and the array of all images. -/
abbrev oX (t : Fin cfg1.N) : FVec Ideal S1x96x128x128 .f32 := outB (mmC (W3 m) c t) (xC (W3 m) c t) (aC (W3 m) c t) (dC (W3 m) c t)
def stackO : FVec Ideal S8x96x128x128 .f32 := fun i => oX m c (qnt (i 0)) (ix4 0 (i 1) (i 2) (i 3))

attribute [local irreducible] outB

theorem stackO_blk (t : Fin cfg1.N) (y : S1x96x128x128.Idx) (i : S8x96x128x128.Idx)
    (h0 : (i 0 : ℕ) = t.val) (h1 : (i 1 : ℕ) = (y 1 : ℕ)) (h2 : (i 2 : ℕ) = (y 2 : ℕ)) (h3 : (i 3 : ℕ) = (y 3 : ℕ)) :
    oX m c t y = stackO m c i := by
  unfold stackO
  have ht : qnt (i 0) = t := by rw [h0]; exact qnt_val t
  rw [ht]
  refine congrArg (oX m c t) (funext fun a => ?_)
  fin_cases a
  · exact Subsingleton.elim (α := Fin 1) _ _
  · exact Fin.ext h1.symm
  · exact Fin.ext h2.symm
  · exact Fin.ext h3.symm

theorem o_arr : W4 m c main_v32 = stackO m c := by
  refine (Pipeline.afterRegion_arr (dat1 (W3 m) c) (W3 m c) launch1.win.arr_inj 4).trans ?_
  refine (dat1 (W3 m) c).arrAt_eq_of_covers 4 _ (by decide +kernel) fun t hf y => ?_
  refine stackO_blk m c t y _ ?_ ?_ ?_ ?_
  · blk_simp
    exact (bt4 t).1
  · blk_simp
    exact start (bt4 t).2.1 rfl
  · blk_simp
    exact start (bt4 t).2.2.1 rfl
  · blk_simp
    exact start (bt4 t).2.2.2 rfl

/-- The second call leaves the prototypes. -/
theorem W4_fg : W4 m c main_v30_3 = stack4 (fgX m c) :=
  (Pipeline.afterRegion_keeps (dat1 (W3 m) c) (W3 m c) launch1.win.arr_inj (fun _ => rfl) main_v30_3 (by decide)).trans <|
    (W3_kept m c main_v30_3 (by decide)).trans (fg_arr m c)
theorem W4_bg : W4 m c main_v30_4 = stack4 (bgX m c) :=
  (Pipeline.afterRegion_keeps (dat1 (W3 m) c) (W3 m c) launch1.win.arr_inj (fun _ => rfl) main_v30_4 (by decide)).trans <|
    (W3_kept m c main_v30_4 (by decide)).trans (bg_arr m c)

end Cert.KernelIdeal.Val
end
-- ==== Proof.V.PreEq.lean ====
module

public import proofs.«01_k».proof.Defs
public import proofs.«01_k».proof.Proof.Gen.ReferenceIdeal.Run

@[expose] public section
set_option maxRecDepth 8192

/-! The precondition read in the reference's own terms: its function computes what the reference computes, and compares it. -/

noncomputable section
namespace Cert.ReferenceIdeal.Val
open Cert.ReferenceIdeal Cert.ReferenceIdeal.Value
open Idealize.ShloMosaic Idealize.ShloMosaic.StableHlo

/-- The shape facts the precondition states. -/
instance preFacts : Cert.Pre_in_domain.Facts where
  bcast_S8x96x1x1_S8x96x128x128_0_1_2_3 := by decide
  reducesTo_S8x96x128x128_S8x128x128_d1 := by decide
  h_S_ := by decide
  reducesTo_S8x96x1x1_S8x1x1_d1 := by decide
  bcast_S_S8x128x128 := by decide
  bcast_S_S8x1x1 := by decide
  bcast_S8x1x1_S8x128x128_0_1_2 := by decide
  bcast_S8x128x128_S8x1x128x128_0_2_3 := by decide
  concatenates_S8x1x128x128_S8x1x128x128_S8x2x128x128_d1 := by decide
  bcast_S_S8x2x128x128 := by decide
  reducesTo_S8x2x128x128_S8x128x128_d1 := by decide
  bcast_S8x1x128x128_S8x2x128x128_0_1_2_3 := by decide
  shapeCasts_S8x2x128x128_S8x2x16384 := by decide
  slices_S8x2x16384_S8x1x16384_0_1_0 := by decide
  shapeCasts_S8x1x16384_S8x16384 := by decide
  slices_S8x2x16384_S8x1x16384_0_0_0 := by decide
  shapeCasts_S8x96x128x128_S8x96x16384 := by decide
  bcast_S_S8x16384 := by decide
  reducesTo_S8x16384_S8_d1 := by decide
  bcast_S8x16384_S8x1x16384_0_2 := by decide
  bcast_S8x1x16384_S8x96x16384_0_1_2 := by decide
  reducesTo_S8x96x16384_S8x96_d2 := by decide
  bcast_S_S8 := by decide
  bcast_S8_S8x1_0 := by decide
  bcast_S8x1_S8x96_0_1 := by decide
  sliceFits_S8x16384_S8x12 := by decide
  bcast_S8x12_S8x1x12_0_2 := by decide
  bcast_S_S8x1x12 := by decide
  shapeCasts_S8x1x12_S8x12x1 := by decide
  bcast_S_S8x12x1 := by decide
  bcast_S1_S1x1x1_2 := by decide
  bcast_S1x1x1_S8x12x1_0_1_2 := by decide
  reducesTo_S8x12x1_S8x12_d2 := by decide
  bcast_S8x12_S8x96x12_0_2 := by decide
  bcast_S_S8x96x12 := by decide
  reducesTo_S8x96x12_S8x96_d2 := by decide
  bcast_S_S8x96 := by decide
  shapeCasts_S8x96_S8x96x1x1 := by decide
  reducesTo_S8x1x128x128_S_d0_1_2_3 := by decide
  bcast_S_S8x96x128x128 := by decide
  gather_S8x96x16384_S8x12x1_S8x96x12_1_2_0_0_2_2_1961_wf := by decide

variable (V : Valuation τ sig (Elt Ideal))

/-- The least and the greatest of a map over all images and pixels. -/
def loOf (x : FVec Ideal S8x1x128x128 .f32) : FVec Ideal S_ .f32 :=
  Host.reduce FloatOps.minimumf x (constant S_ .f32 0x7F800000#32) Gen.reducesTo_S8x1x128x128_S_d0_1_2_3 Gen.h_S_
def hiOf (x : FVec Ideal S8x1x128x128 .f32) : FVec Ideal S_ .f32 :=
  Host.reduce FloatOps.maximumf x (constant S_ .f32 0xFF800000#32) Gen.reducesTo_S8x1x128x128_S_d0_1_2_3 Gen.h_S_

set_option maxHeartbeats 4000000 in
/-- The precondition's three arrays. -/
theorem pre_eq :
    Cert.Pre_in_domain.fn (F := Ideal) (V (Proc.devRef .tc main_arg0)) (V (Proc.devRef .tc main_arg1))
      (V (Proc.devRef .tc main_arg2)) (V (Proc.devRef .tc main_arg3))
    = (cmpf .olt (Host.absf (V (Proc.devRef .tc main_arg2) : FVec Ideal S8x96x128x128 .f32))
          (broadcastInDim S8x96x128x128 ![] (by decide) (constant (F := Ideal) S_ .f32 0x7F800000#32)),
        cmpf .une (res_main_v50 V) (broadcastInDim S8x16384 ![] (by decide) (res_main_v56 V)),
        ori (cmpf .ogt (hiOf (res_main_v121 V)) (loOf (res_main_v121 V)))
          (cmpf .ogt (hiOf (res_main_v138 V)) (loOf (res_main_v138 V)))) := by
  rfl

end Cert.ReferenceIdeal.Val
end
-- ==== Proof.V.Pick.lean ====
module

public import proofs.«01_k».proof.Proof.V.Top
public import proofs.«01_k».proof.Proof.Gen.ReferenceIdeal
public import Idealize.ShloMosaic.Lib.Pointwise

@[expose] public section
set_option maxRecDepth 8192

/-! The reference's top-k and gather read at an index. -/

noncomputable section
namespace Cert.ReferenceIdeal.Val
open Cert.ReferenceIdeal Cert.ReferenceIdeal.Gen
open Idealize.ShloMosaic Cert.Val

/-- The order the reference's top-k sorts one row by. -/
def before (x : FVec Ideal S8x16384 .f32) (b : Fin 8) (k k' : Fin 16384) : Bool :=
  FloatOps.cmpfTotal .gt (x (ix2 b k)) (x (ix2 b k')) == 1#1

theorem before_iff (x : FVec Ideal S8x16384 .f32) (b : Fin 8) (v : Fin 16384 → ℝ) (hv : ∀ p, (x (ix2 b p) : EReal) = (v p : EReal))
    (k k' : Fin 16384) : before x b k k' = true ↔ v k' < v k := by
  have e : before x b k k' = (BitVec.ofBool (decide ((x (ix2 b k') : EReal) < (x (ix2 b k) : EReal))) == 1#1) := rfl
  rw [e, hv, hv]
  by_cases h : v k' < v k
  · simp [h]
  · simp [h]

/-- The `j`th index of row `b`. -/
theorem topK_at (x : FVec Ideal S8x16384 .f32) (b : Fin 8) (j : Fin 12) :
    (Host.topK S8x12 1 (FloatOps.cmpfTotal (F := Ideal) .gt) x sliceFits_S8x16384_S8x12).2 (ix2 b j)
      = BitVec.ofNat 32 (sortedFrom (before x b) (Fin.castLE (by decide) j)).val := by
  have hJ : ∀ (h : ∀ a : Fin 2, 0 + (ix2 b j a).val < S8x16384.size a),
      (fun a : Fin 2 => (⟨0 + (ix2 b j a).val, h a⟩ : Fin (S8x16384.size a))) = ix2 b (Fin.castLE (by decide) j : Fin 16384) := by
    intro h; funext a; fin_cases a <;> exact Fin.ext (by simp)
  have hal : ∀ k : Fin 16384, Shape.Idx.along (s := S8x16384) (ix2 b (Fin.castLE (by decide) j : Fin 16384)) 1 k = ix2 b k := by
    intro k; funext a; fin_cases a
    · exact Function.update_of_ne (by decide) _ _
    · exact Function.update_self _ _ _
  unfold Host.topK extractStridedSlice
  dsimp only
  have hlt : ∀ a : Fin 2, 0 + (ix2 b j a).val < S8x16384.size a := by
    intro a; fin_cases a <;> simp <;> omega
  show (Host.sort2 S8x16384 1 _ x _).2 (fun a : Fin 2 => (⟨0 + (ix2 b j a).val, hlt a⟩ : Fin (S8x16384.size a))) = _
  rw [hJ hlt]
  refine (congrArg (fun J : S8x16384.Idx => BitVec.ofNat 32 (J 1).val) (hal _)).trans ?_
  refine congrArg (fun R : Fin 16384 → Fin 16384 → Bool => BitVec.ofNat 32 (sortedFrom R (Fin.castLE (by decide) j : Fin 16384)).val)
    (?_ : _ = before x b)
  funext k k'
  show (FloatOps.cmpfTotal .gt (x (Shape.Idx.along (s := S8x16384) _ 1 k)) (x (Shape.Idx.along (s := S8x16384) _ 1 k')) == 1#1) = _
  exact congrArg₂ (fun J J' : S8x16384.Idx => FloatOps.cmpfTotal (F := Ideal) .gt (x J) (x J') == 1#1) (hal k) (hal k')

/-- What the gather reads where its index is in range. -/
theorem gather_at (x : FVec Ideal S8x96x16384 .f32) (i : IVec S8x12x1 32) (b : Fin 8) (c : Fin 96) (j : Fin 12) (p : Fin 16384)
    (hp : i (ix3 b j 0) = BitVec.ofNat 32 p) :
    Host.gather gather_S8x96x16384_S8x12x1_S8x96x12_1_2_0_0_2_2_1961 x i (ix3 b c j) = x (ix3 b c p) := by
  unfold Host.gather
  refine congrArg x (funext fun a => Fin.ext ?_)
  have hpi : (BitVec.ofNat 32 (p : ℕ)).toInt.toNat = p := by
    rw [BitVec.toInt_eq_toNat_of_lt (by rw [BitVec.toNat_ofNat]; omega), BitVec.toNat_ofNat]
    omega
  match a with
  | ⟨0, _⟩ => exact (by omega : 0 + (b : ℕ) + 0 = b)
  | ⟨1, _⟩ => exact (by omega : 0 + 0 + (c : ℕ) = c)
  | ⟨2, _⟩ =>
    have hsi : ∀ h, (gather_S8x96x16384_S8x12x1_S8x96x12_1_2_0_0_2_2_1961).siIdx (ix3 b c j) ⟨0, h⟩ = ix3 b j 0 := by
      intro h; funext a; fin_cases a <;> rfl
    have hst : (gather_S8x96x16384_S8x12x1_S8x96x12_1_2_0_0_2_2_1961).start (ix3 b c j) i 2 = p := by
      refine (congrArg (fun y => min (i y).toInt.toNat 16383) (hsi _)).trans ?_
      show min (i (ix3 b j 0)).toInt.toNat 16383 = p
      rw [hp, hpi]; omega
    show (gather_S8x96x16384_S8x12x1_S8x96x12_1_2_0_0_2_2_1961).start (ix3 b c j) i 2 + 0 + 0 = p
    rw [hst]; rfl

end Cert.ReferenceIdeal.Val
end
-- ==== Proof.V.Ref.lean ====
module

public import proofs.«01_k».proof.Proof.V.Pick
public import proofs.«01_k».proof.Proof.V.Model
public import proofs.«01_k».proof.Proof.Gen.ReferenceIdeal.Run

@[expose] public section
set_option maxRecDepth 8192

/-! The reference's two prototypes and two maps: each pair is one function of different arrays, read here once at an index. -/

noncomputable section
namespace Cert.ReferenceIdeal.Val
open Cert.ReferenceIdeal Cert.ReferenceIdeal.Gen Cert.ReferenceIdeal.Value
open Idealize.ShloMosaic Idealize.ShloMosaic.StableHlo Cert.Val

section Fun
variable (q : FVec Ideal S8x96x128x128 .f32) (f : FVec Ideal S8x96x16384 .f32) (mask pred : FVec Ideal S8x16384 .f32)
  (p : FVec Ideal S8x96x1x1 .f32)

/-- The passing pixels of each image, counted. -/
def cntOf : FVec Ideal S8 .f32 :=
  Host.reduceAdd mask (constant S_ .f32 0x00000000#32) reducesTo_S8x16384_S8_d1 h_S_

/-- The places of the twelve most confident pixels. -/
def pickOf : IVec S8x1x12 32 :=
  broadcastInDim S8x1x12 ![0, 2] bcast_S8x12_S8x1x12_0_2 ((Host.topK S8x12 1 (FloatOps.cmpfTotal .gt) pred sliceFits_S8x16384_S8x12).2)
def placeOf : IVec S8x12x1 32 :=
  shapeCast _ (select (cmpi .slt (pickOf pred) (broadcastInDim S8x1x12 ![] bcast_S_S8x1x12 (constantI S_ 32 0#32)))
    (addi (pickOf pred) (broadcastInDim S8x1x12 ![] bcast_S_S8x1x12 (constantI S_ 32 16384#32))) (pickOf pred)) shapeCasts_S8x1x12_S8x12x1

/-- The prototype of each image. -/
def protoOf : FVec Ideal S8x96x1x1 .f32 :=
  shapeCast _ (select (broadcastInDim S8x96 ![0, 1] bcast_S8x1_S8x96_0_1 (broadcastInDim S8x1 ![0] bcast_S8_S8x1_0 (cmpf .ogt (cntOf mask) (broadcastInDim S8 ![] bcast_S_S8 (constant S_ .f32 0x00000000#32)))))
    (Host.divf (Host.reduceAdd (mulf f (broadcastInDim S8x96x16384 ![0, 1, 2] bcast_S8x1x16384_S8x96x16384_0_1_2 (broadcastInDim S8x1x16384 ![0, 2] bcast_S8x16384_S8x1x16384_0_2 mask))) (constant S_ .f32 0x00000000#32) reducesTo_S8x96x16384_S8x96_d2 h_S_)
      (broadcastInDim S8x96 ![0, 1] bcast_S8x1_S8x96_0_1 (broadcastInDim S8x1 ![0] bcast_S8_S8x1_0 (maximumf (cntOf mask) (broadcastInDim S8 ![] bcast_S_S8 (constant S_ .f32 0x3F800000#32))))))
    (Host.divf (Host.reduceAdd (select (broadcastInDim S8x96x12 ![0, 2] bcast_S8x12_S8x96x12_0_2
        (Host.reduce IntOp.andi (andi (cmpi .sge (placeOf pred) (broadcastInDim S8x12x1 ![] bcast_S_S8x12x1 (constantI S_ 32 0#32)))
          (cmpi .sle (placeOf pred) (broadcastInDim S8x12x1 ![0, 1, 2] bcast_S1x1x1_S8x12x1_0_1_2 (broadcastInDim S1x1x1 ![2] bcast_S1_S1x1x1_2 (constantI S1 32 16383#32)))))
          (constantI S_ 1 1#1) reducesTo_S8x12x1_S8x12_d2 h_S_))
        (Host.gather gather_S8x96x16384_S8x12x1_S8x96x12_1_2_0_0_2_2_1961 f (placeOf pred))
        (broadcastInDim S8x96x12 ![] bcast_S_S8x96x12 (constant S_ .f32 0x7FC00000#32)))
        (constant S_ .f32 0x00000000#32) reducesTo_S8x96x12_S8x96_d2 h_S_) (broadcastInDim S8x96 ![] bcast_S_S8x96 (constant S_ .f32 0x41400000#32))))
    shapeCasts_S8x96_S8x96x1x1

/-- The similarity map of each image to a prototype. -/
def mapOf : FVec Ideal S8x1x128x128 .f32 :=
  broadcastInDim S8x1x128x128 ![0, 2, 3] bcast_S8x128x128_S8x1x128x128_0_2_3 (Host.divf (Host.reduceAdd (mulf q (broadcastInDim S8x96x128x128 ![0, 1, 2, 3] bcast_S8x96x1x1_S8x96x128x128_0_1_2_3 p)) (constant S_ .f32 0x00000000#32) reducesTo_S8x96x128x128_S8x128x128_d1 h_S_) (mulf (maximumf (Host.sqrt (Host.reduceAdd (mulf q q) (constant S_ .f32 0x00000000#32) reducesTo_S8x96x128x128_S8x128x128_d1 h_S_)) (broadcastInDim S8x128x128 ![] bcast_S_S8x128x128 (constant S_ .f32 0x322BCC77#32))) (broadcastInDim S8x128x128 ![0, 1, 2] bcast_S8x1x1_S8x128x128_0_1_2 (maximumf (Host.sqrt (Host.reduceAdd (mulf p p) (constant S_ .f32 0x00000000#32) reducesTo_S8x96x1x1_S8x1x1_d1 h_S_)) (broadcastInDim S8x1x1 ![] bcast_S_S8x1x1 (constant S_ .f32 0x322BCC77#32))))))

/-! ## Read at an index -/

theorem cntOf_at (b : Fin 8) : @Eq EReal (cntOf mask (ix1 b)) (∑ k : Fin 16384, (mask (ix2 b k) : EReal)) := by
  pointwise [cntOf]

theorem pickOf_at (b : Fin 8) (j : Fin 12) :
    pickOf pred (ix3 b 0 j) = BitVec.ofNat 32 (sortedFrom (before pred b) (Fin.castLE (by decide) j)).val := by
  rw [← topK_at]
  pointwise [pickOf]

theorem mapOf_at (b : Fin 8) (h w : Fin 128) : @Eq EReal (mapOf q p (ix4 b 0 h w))
    (Ideal.div (∑ c, (q (ix4 b c h w) : EReal) * (p (ix4 b c 0 0) : EReal))
      (max (Ideal.sqrt (∑ c, (q (ix4 b c h w) : EReal) * (q (ix4 b c h w) : EReal))) (Ideal.ofBits .f32 841731191#32)
        * max (Ideal.sqrt (∑ c, (p (ix4 b c 0 0) : EReal) * (p (ix4 b c 0 0) : EReal))) (Ideal.ofBits .f32 841731191#32))) := by
  pointwise [mapOf]

/-- An index below the row length, taken as it is. -/
theorem small_pos (n : ℕ) (hn : n < 16384) : (BitVec.ofNat 32 n).toInt = n := by
  rw [BitVec.toInt_eq_toNat_of_lt (by rw [BitVec.toNat_ofNat]; omega), BitVec.toNat_ofNat]
  omega

theorem place_small (n : ℕ) (hn : n < 16384) (a : BitVec 32) :
    Scalar.select (IntOp.cmpi .slt (BitVec.ofNat 32 n) 0#32) a (BitVec.ofNat 32 n) = BitVec.ofNat 32 n := by
  have h : IntOp.cmpi .slt (BitVec.ofNat 32 n) 0#32 = 0#1 := by
    have e : IntOp.cmpi .slt (BitVec.ofNat 32 n) 0#32 = BitVec.ofBool (decide ((BitVec.ofNat 32 n).toInt < (0#32).toInt)) := rfl
    rw [e, small_pos n hn, decide_eq_false (by simp)]; rfl
  rw [h]; rfl

theorem placeOf_at (b : Fin 8) (j : Fin 12) :
    placeOf pred (ix3 b j 0) = BitVec.ofNat 32 (sortedFrom (before pred b) (Fin.castLE (by decide) j)).val := by
  have e : placeOf pred (ix3 b j 0) = Scalar.select (IntOp.cmpi .slt (pickOf pred (ix3 b 0 j)) 0#32)
      (IntOp.addi (pickOf pred (ix3 b 0 j)) 16384#32) (pickOf pred (ix3 b 0 j)) := by
    pointwise [placeOf]
  rw [e, pickOf_at, place_small _ (Fin.isLt _)]

theorem in_range (n : ℕ) (hn : n < 16384) :
    IntOp.andi (IntOp.cmpi .sge (BitVec.ofNat 32 n) 0#32) (IntOp.cmpi .sle (BitVec.ofNat 32 n) 16383#32) = 1#1 := by
  have e1 : IntOp.cmpi .sge (BitVec.ofNat 32 n) 0#32 = BitVec.ofBool (decide ((0#32).toInt ≤ (BitVec.ofNat 32 n).toInt)) := rfl
  have e2 : IntOp.cmpi .sle (BitVec.ofNat 32 n) 16383#32 = BitVec.ofBool (decide ((BitVec.ofNat 32 n).toInt ≤ (16383#32).toInt)) := rfl
  rw [e1, e2, small_pos n hn]
  have h1 : decide ((0#32).toInt ≤ (n : ℤ)) = true := decide_eq_true (by simp)
  have h2 : decide ((n : ℤ) ≤ (16383#32).toInt) = true := decide_eq_true (by
    rw [show (16383#32).toInt = 16383 from rfl]; omega)
  rw [h1, h2]; rfl

theorem fold_ones {ι : Type} (s : Finset ι) (g : ι → BitVec 1) (hg : ∀ i, g i = 1#1) : Finset.fold IntOp.andi 1#1 g s = 1#1 := by
  classical
  induction s using Finset.induction_on with
  | empty => rfl
  | insert a s ha ih => rw [Finset.fold_insert ha, ih, hg]; rfl

theorem protoOf_read (b : Fin 8) (c : Fin 96) : @Eq EReal (protoOf f mask pred (ix4 b c 0 0))
    (if 0 < (cntOf mask (ix1 b) : EReal) then
      Ideal.div (∑ k : Fin 16384, (f (ix3 b c k) : EReal) * (mask (ix2 b k) : EReal)) (max (cntOf mask (ix1 b) : EReal) 1)
    else Ideal.div (∑ j : Fin 12, Scalar.select (Finset.fold IntOp.andi 1#1 (fun x => IntOp.andi (IntOp.cmpi .sge (placeOf pred x) 0#32)
        (IntOp.cmpi .sle (placeOf pred x) 16383#32)) {i | reducesTo_S8x12x1_S8x12_d2.drop i = ix2 b j})
      (Host.gather gather_S8x96x16384_S8x12x1_S8x96x12_1_2_0_0_2_2_1961 f (placeOf pred) (ix3 b c j) : EReal) (Ideal.ofBits .f32 2143289344#32))
      (Ideal.ofBits .f32 1094713344#32)) := by
  pointwise [protoOf]

theorem place_ok (x : S8x12x1.Idx) : IntOp.andi (IntOp.cmpi .sge (placeOf pred x) 0#32) (IntOp.cmpi .sle (placeOf pred x) 16383#32) = 1#1 := by
  obtain ⟨b, j, hx⟩ : ∃ (b : Fin 8) (j : Fin 12), x = (ix3 b j 0 : S8x12x1.Idx) := by
    refine ⟨x 0, x 1, ?_⟩
    funext a; fin_cases a
    · rfl
    · rfl
    · exact Subsingleton.elim (α := Fin 1) _ _
  rw [hx, placeOf_at]
  exact in_range _ (Fin.isLt _)

/-- The prototype at an index: the masked mean, or the mean over the twelve listed pixels. -/
theorem protoOf_at (b : Fin 8) (c : Fin 96) : @Eq EReal (protoOf f mask pred (ix4 b c 0 0))
    (if 0 < (cntOf mask (ix1 b) : EReal) then
      Ideal.div (∑ k : Fin 16384, (f (ix3 b c k) : EReal) * (mask (ix2 b k) : EReal)) (max (cntOf mask (ix1 b) : EReal) 1)
    else Ideal.div (∑ j : Fin 12, (f (ix3 b c (sortedFrom (before pred b) (Fin.castLE (by decide) j))) : EReal))
      (Ideal.ofBits .f32 1094713344#32)) := by
  rw [protoOf_read]
  congr 2
  refine Finset.sum_congr rfl fun j _ => ?_
  rw [fold_ones _ _ fun x => place_ok pred x]
  exact gather_at f (placeOf pred) b c j _ (placeOf_at pred b j)

end Fun

/-! ## The reference's arrays are these functions -/

variable (V : Valuation τ sig (Elt Ideal))

/-- The query features. -/
abbrev Q : FVec Ideal S8x96x128x128 .f32 := V (Proc.devRef .tc main_arg2)

theorem v81_eq : res_main_v81 V = protoOf (res_main_v58 V) (res_main_v61 V) (res_main_v50 V) := rfl
theorem v104_eq : res_main_v104 V = protoOf (res_main_v58 V) (res_main_v84 V) (res_main_v52 V) := rfl
theorem v121_eq : res_main_v121 V = mapOf (Q V) (res_main_v81 V) := rfl
theorem v138_eq : res_main_v138 V = mapOf (Q V) (res_main_v104 V) := rfl

end Cert.ReferenceIdeal.Val
end
-- ==== Proof.V.RVal.lean ====
module

public import proofs.«01_k».proof.Proof.V.Ref
public import proofs.«01_k».proof.Proof.V.Ev

@[expose] public section
set_option maxRecDepth 8192

/-! The reference's arrays are the model's numbers once its inputs are real. -/

noncomputable section
namespace Cert.ReferenceIdeal.Val
open Cert.ReferenceIdeal Cert.ReferenceIdeal.Gen Cert.ReferenceIdeal.Value
open Idealize.ShloMosaic Idealize.ShloMosaic.StableHlo Cert.Val

/-! ## Row-major pixels -/

/-- The pixel of a row-major place. -/
def flat (p : Fin 16384) : Pix := (⟨p / 128, by omega⟩, ⟨p % 128, by omega⟩)

theorem key_flat (p : Fin 16384) : key (flat p) = p := by
  simp only [key, flat]; omega

def pixEquiv : Fin 16384 ≃ Pix where
  toFun := flat
  invFun q := ⟨key q, key_lt q⟩
  left_inv p := Fin.ext (key_flat p)
  right_inv q := key_injective (by rw [key_flat])

theorem sum_flat (g : Pix → ℝ) : ∑ p : Fin 16384, g (flat p) = ∑ h, ∑ w, g (h, w) := by
  rw [← Fintype.sum_prod_type]
  exact Fintype.sum_equiv pixEquiv _ _ fun p => rfl

/-- The twelve first places carry the pixels ranked below twelve. -/
theorem sum_top (r g : Pix → ℝ) (R : Fin 16384 → Fin 16384 → Bool) (hR : ∀ k k', R k k' = true ↔ r (flat k') < r (flat k)) :
    ∑ j : Fin 12, g (flat (sortedFrom R (Fin.castLE (by decide) j))) = ∑ h, ∑ w, g (h, w) * top r (h, w) := by
  rw [sum_sorted (fun p => r (flat p)) R hR (by decide) (fun p => g (flat p)), ← sum_flat fun q => g q * top r q]
  refine Finset.sum_congr rfl fun p _ => ?_
  have e := rank_equiv r key pixEquiv p
  have hk : (fun k => key (pixEquiv k)) = (Fin.val : Fin 16384 → ℕ) := funext key_flat
  rw [hk] at e
  have e' : rank (fun p => r (flat p)) Fin.val p = rank r key (flat p) := e
  rw [e', top]
  split <;> simp

/-- A count that is not zero is at least one. -/
theorem one_le_cnt (r : Pix → ℝ) (t : ℝ) (h : 0 < cnt r t) : 1 ≤ cnt r t := by
  by_contra hc
  have hz : ∀ q, msk r t q = 0 := by
    intro q
    by_contra hq
    have h1 : msk r t q = 1 := by
      unfold msk at hq ⊢
      split
      · rfl
      · rename_i hn; exact absurd (if_neg hn) hq
    refine hc ?_
    have hn : ∀ q, 0 ≤ msk r t q := fun q => by unfold msk; split <;> norm_num
    rw [cnt, ← h1]
    exact (Finset.single_le_sum (f := fun w => msk r t (q.1, w)) (fun w _ => hn _) (Finset.mem_univ q.2)).trans
      (Finset.single_le_sum (f := fun h => ∑ w, msk r t (h, w)) (fun h _ => Finset.sum_nonneg fun w _ => hn _) (Finset.mem_univ q.1))
  simp [cnt, hz] at h

section Fun
variable (q : FVec Ideal S8x96x128x128 .f32) (f : FVec Ideal S8x96x16384 .f32) (mask pred : FVec Ideal S8x16384 .f32)
  (p : FVec Ideal S8x96x1x1 .f32)

theorem cntOf_val (r : Pix → ℝ) (t : ℝ) (b : Fin 8) (hm : ∀ k, @Eq EReal (mask (ix2 b k)) (msk r t (flat k) : ℝ)) :
    @Eq EReal (cntOf mask (ix1 b)) (cnt r t : ℝ) := by
  rw [cntOf_at, cnt, ← sum_flat (msk r t), ← coe_sum]
  exact Finset.sum_congr rfl fun k _ => hm k

/-- The prototype of an image is the model's. -/
theorem protoOf_val (x : Img) (r : Pix → ℝ) (t : ℝ) (b : Fin 8) (hf : ∀ c k, @Eq EReal (f (ix3 b c k)) (x c (flat k).1 (flat k).2 : ℝ))
    (hm : ∀ k, @Eq EReal (mask (ix2 b k)) (msk r t (flat k) : ℝ)) (hp : ∀ k, @Eq EReal (pred (ix2 b k)) (r (flat k) : ℝ))
    (c : Fin 96) : @Eq EReal (protoOf f mask pred (ix4 b c 0 0)) (proto x r t c : ℝ) := by
  rw [protoOf_at, cntOf_val mask r t b hm, proto]
  by_cases h : 0 < cnt r t
  · rw [if_pos (EReal.coe_pos.2 h), if_pos h]
    have e1 : (max (cnt r t : EReal) 1) = (cnt r t : EReal) := max_eq_left (by exact_mod_cast one_le_cnt r t h)
    rw [e1, ← sum_flat fun q => x c q.1 q.2 * msk r t q]
    have e2 : (∑ k : Fin 16384, (f (ix3 b c k) : EReal) * (mask (ix2 b k) : EReal))
        = ((∑ k : Fin 16384, x c (flat k).1 (flat k).2 * msk r t (flat k) : ℝ) : EReal) := by
      rw [← coe_sum]
      refine Finset.sum_congr rfl fun k _ => ?_
      rw [hf, hm, EReal.coe_mul]
    rw [e2, div_real _ h.ne']
  · rw [if_neg (fun h' => h (EReal.coe_pos.1 h')), if_neg h, twelve_eq,
      ← sum_top r (fun q => x c q.1 q.2) (before pred b) (before_iff pred b (fun k => r (flat k)) hp)]
    rw [← div_real _ (by norm_num), ← coe_sum]
    congr 1
    exact Finset.sum_congr rfl fun j _ => hf c _

/-- The similarity map of an image is the model's. -/
theorem mapOf_val (x : Img) (P : Fin 96 → ℝ) (b : Fin 8) (hq : ∀ c h w, @Eq EReal (q (ix4 b c h w)) (x c h w : ℝ))
    (hp : ∀ c, @Eq EReal (p (ix4 b c 0 0)) (P c : ℝ)) (h w : Fin 128) :
    @Eq EReal (mapOf q p (ix4 b 0 h w)) (act x P h w : ℝ) := by
  rw [mapOf_at]
  simp only [hq, hp]
  rw [nrm_real (fun c => x c h w), nrm_real P, ← EReal.coe_mul, dot_real, div_real _ (mul_pos (nrm_pos _) (nrm_pos _)).ne']
  rfl

end Fun

/-! ## Scores and confidences -/

variable (V : Valuation τ sig (Elt Ideal))

/-- Arrays of the run, under their shapes. -/
abbrev m36 : FVec Ideal S8x2x128x128 .f32 := res_main_v36 V
abbrev m43 : FVec Ideal S8x2x128x128 .f32 := res_main_v43 V
abbrev m50 : FVec Ideal S8x16384 .f32 := res_main_v50 V
abbrev m52 : FVec Ideal S8x16384 .f32 := res_main_v52 V
abbrev m56 : FVec Ideal S_ .f32 := res_main_v56 V

/-- The two given prototypes. -/
abbrev Fg : FVec Ideal S8x96x1x1 .f32 := V (Proc.devRef .tc main_arg0)
abbrev Bg : FVec Ideal S8x96x1x1 .f32 := V (Proc.devRef .tc main_arg1)

theorem v36_at (b : Fin 8) (k : Fin 2) (h w : Fin 128) : @Eq EReal (m36 V (ix4 b k h w))
    ((if _h : (k : ℕ) < 1 then
        Ideal.div (∑ c, (Q V (ix4 b c h w) : EReal) * (Bg V (ix4 b c 0 0) : EReal))
          (max (Ideal.sqrt (∑ c, (Q V (ix4 b c h w) : EReal) * (Q V (ix4 b c h w) : EReal))) (Ideal.ofBits .f32 841731191#32)
            * max (Ideal.sqrt (∑ c, (Bg V (ix4 b c 0 0) : EReal) * (Bg V (ix4 b c 0 0) : EReal))) (Ideal.ofBits .f32 841731191#32))
      else
        Ideal.div (∑ c, (Q V (ix4 b c h w) : EReal) * (Fg V (ix4 b c 0 0) : EReal))
          (max (Ideal.sqrt (∑ c, (Q V (ix4 b c h w) : EReal) * (Q V (ix4 b c h w) : EReal))) (Ideal.ofBits .f32 841731191#32)
            * max (Ideal.sqrt (∑ c, (Fg V (ix4 b c 0 0) : EReal) * (Fg V (ix4 b c 0 0) : EReal))) (Ideal.ofBits .f32 841731191#32)))
      * Ideal.ofBits .f32 1092616192#32) := by
  pointwise [m36, res_main_v36]

/-- The largest score of a pixel, as the reference takes it. -/
def shift (b : Fin 8) (h w : Fin 128) : EReal :=
  max (Ideal.ofBits .f32 4286578688#32)
    (Finset.fold max (Ideal.ofBits .f32 4286578688#32) (m36 V) {i | reducesTo_S8x2x128x128_S8x128x128_d1.drop i = ix3 b h w})

theorem v43_at (b : Fin 8) (k : Fin 2) (h w : Fin 128) : @Eq EReal (m43 V (ix4 b k h w))
    (Ideal.exp ((m36 V (ix4 b k h w) : EReal) - shift V b h w)) := by
  pointwise [m43, res_main_v43]
  rfl

theorem v48_at (b : Fin 8) (k : Fin 2) (p : Fin 16384) : @Eq EReal (res_main_v48 V (ix3 b k p))
    (Ideal.div (m43 V (ix4 b k (flat p).1 (flat p).2)) (∑ j, (m43 V (ix4 b j (flat p).1 (flat p).2) : EReal))) := by
  pointwise [res_main_v48, flat]

theorem v50_at (b : Fin 8) (p : Fin 16384) : @Eq EReal (m50 V (ix2 b p)) (res_main_v48 V (ix3 b 1 p)) := by
  pointwise [m50, res_main_v50]

theorem v52_at (b : Fin 8) (p : Fin 16384) : @Eq EReal (m52 V (ix2 b p)) (res_main_v48 V (ix3 b 0 p)) := by
  pointwise [m52, res_main_v52]

theorem v58_at (b : Fin 8) (c : Fin 96) (p : Fin 16384) :
    @Eq EReal (res_main_v58 V (ix3 b c p)) (Q V (ix4 b c (flat p).1 (flat p).2)) := by
  pointwise [res_main_v58, flat]

theorem v61_at (b : Fin 8) (p : Fin 16384) : @Eq EReal (res_main_v61 V (ix2 b p))
    (((BitVec.ofBool (decide ((m56 V ix0 : EReal) < m50 V (ix2 b p)))).toNat : ℝ) : EReal) := by
  pointwise [res_main_v61]
  rfl

theorem v84_at (b : Fin 8) (p : Fin 16384) : @Eq EReal (res_main_v84 V (ix2 b p))
    (((BitVec.ofBool (decide (1 - (m56 V ix0 : EReal) < m52 V (ix2 b p)))).toNat : ℝ) : EReal) := by
  pointwise [res_main_v84]
  rfl

/-- The query, the two directions and the threshold are real. -/
structure Inputs (x : Fin 8 → Img) (u v : Fin 8 → Fin 96 → ℝ) (t : ℝ) : Prop where
  q : ∀ b c h w, @Eq EReal (Q V (ix4 b c h w)) (x b c h w : ℝ)
  fg : ∀ b (y : Fin 96 → ℝ) (q : ℝ), 0 < q → Ideal.div (∑ c, (y c : EReal) * (Fg V (ix4 b c 0 0) : EReal))
    ((q : EReal) * max (Ideal.sqrt (∑ c, (Fg V (ix4 b c 0 0) : EReal) * (Fg V (ix4 b c 0 0) : EReal))) (Ideal.ofBits .f32 841731191#32))
    = (((∑ c, y c * u b c) / q : ℝ) : EReal)
  bg : ∀ b (y : Fin 96 → ℝ) (q : ℝ), 0 < q → Ideal.div (∑ c, (y c : EReal) * (Bg V (ix4 b c 0 0) : EReal))
    ((q : EReal) * max (Ideal.sqrt (∑ c, (Bg V (ix4 b c 0 0) : EReal) * (Bg V (ix4 b c 0 0) : EReal))) (Ideal.ofBits .f32 841731191#32))
    = (((∑ c, y c * v b c) / q : ℝ) : EReal)
  th : @Eq EReal (m56 V ix0) (t : ℝ)

variable {V} {x : Fin 8 → Img} {u v : Fin 8 → Fin 96 → ℝ} {t : ℝ} (H : Inputs V x u v t)
include H

theorem v36_bg (b : Fin 8) (h w : Fin 128) : @Eq EReal (m36 V (ix4 b 0 h w)) ((score (x b) (v b) h w * 10 : ℝ) : EReal) := by
  rw [v36_at, dif_pos (by decide), ten_eq]
  simp only [H.q]
  rw [nrm_real (fun c => x b c h w), H.bg b (fun c => x b c h w) _ (nrm_pos _), ← EReal.coe_mul]
  rfl

theorem v36_fg (b : Fin 8) (h w : Fin 128) : @Eq EReal (m36 V (ix4 b 1 h w)) ((score (x b) (u b) h w * 10 : ℝ) : EReal) := by
  rw [v36_at, dif_neg (by decide), ten_eq]
  simp only [H.q]
  rw [nrm_real (fun c => x b c h w), H.fg b (fun c => x b c h w) _ (nrm_pos _), ← EReal.coe_mul]
  rfl

/-- The shift under the exponentials is a real number. -/
theorem shift_real (b : Fin 8) (h w : Fin 128) : ∃ m : ℝ, shift V b h w = ((m : ℝ) : EReal) := by
  have hlow : Ideal.ofBits .f32 4286578688#32 = (⊥ : EReal) := by simp [Ideal.ofBits, Ideal.ieee]
  have hreal : ∀ i : S8x2x128x128.Idx, ∃ y : ℝ, @Eq EReal (m36 V i) (y : ℝ) := by
    intro i
    obtain ⟨b, k, h, w, hi⟩ : ∃ (b : Fin 8) (k : Fin 2) (h w : Fin 128), i = (ix4 b k h w : S8x2x128x128.Idx) :=
      ⟨i 0, i 1, i 2, i 3, by funext a; fin_cases a <;> rfl⟩
    rw [hi]
    match k with
    | 0 => exact ⟨_, v36_bg H b h w⟩
    | 1 => exact ⟨_, v36_fg H b h w⟩
  rw [shift, hlow, max_eq_right bot_le]
  have hle : ∀ z, Finset.fold max (⊥ : EReal) (m36 V) {i | reducesTo_S8x2x128x128_S8x128x128_d1.drop i = ix3 b h w} ≤ z
      ↔ ∀ i ∈ ({i | reducesTo_S8x2x128x128_S8x128x128_d1.drop i = ix3 b h w} : Finset S8x2x128x128.Idx), (m36 V i : EReal) ≤ z := by
    intro z
    rw [Finset.fold_max_le]
    simp
  set M := Finset.fold max (⊥ : EReal) (m36 V) {i | reducesTo_S8x2x128x128_S8x128x128_d1.drop i = ix3 b h w} with hM
  have hmem : (ix4 b 0 h w : S8x2x128x128.Idx) ∈ ({i | reducesTo_S8x2x128x128_S8x128x128_d1.drop i = ix3 b h w} : Finset S8x2x128x128.Idx) := by
    refine Finset.mem_filter.2 ⟨Finset.mem_univ _, ?_⟩
    funext a; fin_cases a <;> rfl
  have h1 := (hle M).1 le_rfl _ hmem
  rw [v36_bg H] at h1
  have h2 : M ≤ ((max (score (x b) (v b) h w * 10) (score (x b) (u b) h w * 10) : ℝ) : EReal) := by
    refine (hle _).2 fun i hi => ?_
    obtain ⟨b', k', h', w', hi'⟩ : ∃ (b : Fin 8) (k : Fin 2) (h w : Fin 128), i = (ix4 b k h w : S8x2x128x128.Idx) :=
      ⟨i 0, i 1, i 2, i 3, by funext a; fin_cases a <;> rfl⟩
    have hd := (Finset.mem_filter.1 hi).2
    rw [hi'] at hd ⊢
    have eb : b' = b := congrFun hd 0
    have eh : h' = h := congrFun hd 1
    have ew : w' = w := congrFun hd 2
    subst eb eh ew
    match k' with
    | 0 => rw [v36_bg H]; exact_mod_cast le_max_left _ _
    | 1 => rw [v36_fg H]; exact_mod_cast le_max_right _ _
  refine ⟨M.toReal, (EReal.coe_toReal ?_ ?_).symm⟩
  · exact (h2.trans_lt (EReal.coe_lt_top _)).ne
  · exact ((EReal.bot_lt_coe _).trans_le h1).ne'

/-- The foreground confidence. -/
theorem v50_val (b : Fin 8) (p : Fin 16384) : @Eq EReal (m50 V (ix2 b p)) (conf (x b) (u b) (v b) (flat p) : ℝ) := by
  obtain ⟨m, hm⟩ := shift_real H b (flat p).1 (flat p).2
  rw [v50_at, v48_at, Fin.sum_univ_two, v43_at, v43_at, hm, v36_bg H, v36_fg H, softmax_fg]
  rfl

/-- The background confidence is what is left. -/
theorem v52_val (b : Fin 8) (p : Fin 16384) : @Eq EReal (m52 V (ix2 b p)) ((1 - conf (x b) (u b) (v b) (flat p) : ℝ) : EReal) := by
  obtain ⟨m, hm⟩ := shift_real H b (flat p).1 (flat p).2
  rw [v52_at, v48_at, Fin.sum_univ_two, v43_at, v43_at, hm, v36_bg H, v36_fg H, softmax_bg]
  rfl

omit H in
theorem mask_word (a b : ℝ) : ((((BitVec.ofBool (decide ((a : EReal) < (b : EReal)))).toNat : ℝ) : ℝ) : EReal)
    = ((if a < b then 1 else 0 : ℝ) : EReal) := by
  by_cases h : a < b
  · rw [if_pos h, decide_eq_true (EReal.coe_lt_coe_iff.2 h)]; simp
  · rw [if_neg h, decide_eq_false (fun h' => h (EReal.coe_lt_coe_iff.1 h'))]; simp

theorem v61_val (b : Fin 8) (p : Fin 16384) : @Eq EReal (res_main_v61 V (ix2 b p)) (msk (conf (x b) (u b) (v b)) t (flat p) : ℝ) := by
  rw [v61_at, H.th, v50_val H, mask_word]
  rfl

theorem v84_val (b : Fin 8) (p : Fin 16384) :
    @Eq EReal (res_main_v84 V (ix2 b p)) (msk (fun q => 1 - conf (x b) (u b) (v b) q) (1 - t) (flat p) : ℝ) := by
  rw [v84_at, H.th, v52_val H, show (1 : EReal) - (t : EReal) = ((1 - t : ℝ) : EReal) from rfl, mask_word]
  rfl

theorem v58_val (b : Fin 8) (c : Fin 96) (p : Fin 16384) :
    @Eq EReal (res_main_v58 V (ix3 b c p)) (x b c (flat p).1 (flat p).2 : ℝ) := by
  rw [v58_at, H.q]

/-- The two prototypes. -/
theorem v81_val (b : Fin 8) (c : Fin 96) : @Eq EReal (res_main_v81 V (ix4 b c 0 0)) (fgr (x b) (u b) (v b) t c : ℝ) := by
  rw [v81_eq]
  exact protoOf_val _ _ _ _ _ t b (v58_val H b) (v61_val H b) (v50_val H b) c

theorem v104_val (b : Fin 8) (c : Fin 96) : @Eq EReal (res_main_v104 V (ix4 b c 0 0)) (bgr (x b) (u b) (v b) t c : ℝ) := by
  rw [v104_eq]
  exact protoOf_val _ _ _ _ (fun q => 1 - conf (x b) (u b) (v b) q) (1 - t) b (v58_val H b) (v84_val H b) (v52_val H b) c

/-- The two maps. -/
theorem v121_val (b : Fin 8) (h w : Fin 128) :
    @Eq EReal (res_main_v121 V (ix4 b 0 h w)) (act (x b) (fgr (x b) (u b) (v b) t) h w : ℝ) := by
  rw [v121_eq]
  exact mapOf_val _ _ _ _ b (H.q b) (v81_val H b) h w

theorem v138_val (b : Fin 8) (h w : Fin 128) :
    @Eq EReal (res_main_v138 V (ix4 b 0 h w)) (act (x b) (bgr (x b) (u b) (v b) t) h w : ℝ) := by
  rw [v138_eq]
  exact mapOf_val _ _ _ _ b (H.q b) (v104_val H b) h w

end Cert.ReferenceIdeal.Val
end
-- ==== Proof.V.Pre.lean ====
module

public import proofs.«01_k».proof.Proof.V.PreEq
public import proofs.«01_k».proof.Proof.V.RVal

@[expose] public section
set_option maxRecDepth 8192

/-! What the precondition says, and the reference's last array read at an index. -/

noncomputable section
namespace Cert.ReferenceIdeal.Val
open Cert.ReferenceIdeal Cert.ReferenceIdeal.Gen Cert.ReferenceIdeal.Value
open Idealize.ShloMosaic Idealize.ShloMosaic.StableHlo Cert.Val

section Fun
variable (x y : FVec Ideal S8x1x128x128 .f32) (q : FVec Ideal S8x96x128x128 .f32)

theorem loOf_at : @Eq EReal (loOf x ix0) (Finset.fold min ⊤ x {i | reducesTo_S8x1x128x128_S_d0_1_2_3.drop i = ix0}) := by
  rw [show (⊤ : EReal) = Ideal.ofBits .f32 2139095040#32 by simp [Ideal.ofBits, Ideal.ieee]]
  pointwise [loOf]

theorem hiOf_at : @Eq EReal (hiOf x ix0) (Finset.fold max ⊥ x {i | reducesTo_S8x1x128x128_S_d0_1_2_3.drop i = ix0}) := by
  rw [show (⊥ : EReal) = Ideal.ofBits .f32 4286578688#32 by simp [Ideal.ofBits, Ideal.ieee]]
  pointwise [hiOf]

/-- A statement about every place of a map is one about every image and pixel. -/
theorem all_places (P : EReal → Prop) :
    (∀ i ∈ ({i | reducesTo_S8x1x128x128_S_d0_1_2_3.drop i = ix0} : Finset S8x1x128x128.Idx), P (x i)) ↔ ∀ b h w, P (x (ix4 b 0 h w)) := by
  constructor
  · intro H b h w
    exact H _ (Finset.mem_filter.2 ⟨Finset.mem_univ _, funext fun a => a.elim0⟩)
  · intro H i _
    obtain ⟨b, h, w, hi⟩ : ∃ (b : Fin 8) (h w : Fin 128), i = (ix4 b 0 h w : S8x1x128x128.Idx) := by
      refine ⟨i 0, i 2, i 3, ?_⟩
      funext a; fin_cases a
      · rfl
      · exact Subsingleton.elim (α := Fin 1) _ _
      · rfl
      · rfl
    rw [hi]; exact H b h w

theorem le_loOf (z : EReal) : z ≤ (loOf x ix0 : EReal) ↔ ∀ b h w, z ≤ (x (ix4 b 0 h w) : EReal) := by
  rw [loOf_at, Finset.le_fold_min, ← all_places x fun v => z ≤ v]
  simp only [le_top, true_and]

theorem hiOf_le (z : EReal) : (hiOf x ix0 : EReal) ≤ z ↔ ∀ b h w, (x (ix4 b 0 h w) : EReal) ≤ z := by
  rw [hiOf_at, Finset.fold_max_le, ← all_places x fun v => v ≤ z]
  simp only [bot_le, true_and]

/-- The query weighted by two maps, each scaled by its ends. -/
def weigh (l g l' g' : FVec Ideal S_ .f32) : FVec Ideal S8x96x128x128 .f32 :=
  addf (mulf q (broadcastInDim S8x96x128x128 ![0, 1, 2, 3] bcast_S8x1x128x128_S8x96x128x128_0_1_2_3 (Host.divf (subf x (broadcastInDim S8x1x128x128 ![] bcast_S_S8x1x128x128 l)) (broadcastInDim S8x1x128x128 ![] bcast_S_S8x1x128x128 (subf g l)))))
    (mulf q (broadcastInDim S8x96x128x128 ![0, 1, 2, 3] bcast_S8x1x128x128_S8x96x128x128_0_1_2_3 (subf (broadcastInDim S8x1x128x128 ![] bcast_S_S8x1x128x128 (constant S_ .f32 0x3F800000#32)) (Host.divf (subf y (broadcastInDim S8x1x128x128 ![] bcast_S_S8x1x128x128 l')) (broadcastInDim S8x1x128x128 ![] bcast_S_S8x1x128x128 (subf g' l'))))))

theorem weigh_at (l g l' g' : FVec Ideal S_ .f32) (b : Fin 8) (c : Fin 96) (h w : Fin 128) : @Eq EReal (weigh x y q l g l' g' (ix4 b c h w))
    ((q (ix4 b c h w) : EReal) * Ideal.div ((x (ix4 b 0 h w) : EReal) - (l ix0 : EReal)) ((g ix0 : EReal) - (l ix0 : EReal))
      + (q (ix4 b c h w) : EReal) * (1 - Ideal.div ((y (ix4 b 0 h w) : EReal) - (l' ix0 : EReal)) ((g' ix0 : EReal) - (l' ix0 : EReal)))) := by
  pointwise [weigh]

theorem bit_true (p : Prop) [Decidable p] (h : BitVec.ofBool (decide p) = 1#1) : p := by
  by_contra hp
  rw [decide_eq_false hp] at h
  exact absurd h (by decide)

theorem real_read (hq : cmpf .olt (Host.absf q) (broadcastInDim S8x96x128x128 ![] (by decide) (constant (F := Ideal) S_ .f32 0x7F800000#32)) = fun _ => 1#1)
    (b : Fin 8) (c : Fin 96) (h w : Fin 128) : ∃ r : ℝ, @Eq EReal (q (ix4 b c h w)) (r : ℝ) := by
  have e : BitVec.ofBool (decide (max (q (ix4 b c h w) : EReal) (-(q (ix4 b c h w) : EReal)) < Ideal.ofBits .f32 0x7F800000#32)) = 1#1 :=
    congrFun hq (ix4 b c h w)
  have e := bit_true _ e
  rw [show Ideal.ofBits .f32 0x7F800000#32 = (⊤ : EReal) by simp [Ideal.ofBits, Ideal.ieee], max_lt_iff] at e
  refine ⟨(q (ix4 b c h w) : EReal).toReal, (EReal.coe_toReal e.1.ne fun hb => ?_).symm⟩
  rw [hb] at e
  exact absurd e.2 (by simp)

theorem ne_read (p : FVec Ideal S8x16384 .f32) (t : FVec Ideal S_ .f32)
    (hp : cmpf .une p (broadcastInDim S8x16384 ![] (by decide) t) = fun _ => 1#1) (b : Fin 8) (k : Fin 16384) :
    (p (ix2 b k) : EReal) ≠ (t ix0 : EReal) := by
  have e := congrFun hp (ix2 b k)
  have e' : BitVec.ofBool (decide ((p (ix2 b k) : EReal) ≠ (t ix0 : EReal))) = 1#1 := by
    rw [← e]
    pointwise []
    try rfl
  exact bit_true _ e'

theorem varies_read (l g l' g' : FVec Ideal S_ .f32) (h : ori (cmpf .ogt g l) (cmpf .ogt g' l') = fun _ => 1#1) :
    (l ix0 : EReal) < (g ix0 : EReal) ∨ (l' ix0 : EReal) < (g' ix0 : EReal) := by
  have e : BitVec.ofBool (decide ((l ix0 : EReal) < (g ix0 : EReal))) ||| BitVec.ofBool (decide ((l' ix0 : EReal) < (g' ix0 : EReal))) = 1#1 :=
    congrFun h ix0
  by_contra hn
  rw [not_or] at hn
  rw [decide_eq_false hn.1, decide_eq_false hn.2] at e
  exact absurd e (by decide)

end Fun

variable (V : Valuation τ sig (Elt Ideal))

/-- The reference's last array: each map is scaled to run from zero to one. -/
def outV : FVec Ideal S8x96x128x128 .f32 :=
  weigh (res_main_v121 V) (res_main_v138 V) (Q V) (loOf (res_main_v121 V)) (hiOf (res_main_v121 V)) (loOf (res_main_v138 V)) (hiOf (res_main_v138 V))

/-- The precondition: the query is real, no confidence meets the threshold, and one of the maps is not constant. -/
structure Domain : Prop where
  real : ∀ b c h w, ∃ r : ℝ, @Eq EReal (Q V (ix4 b c h w)) (r : ℝ)
  ne : ∀ b p, (m50 V (ix2 b p) : EReal) ≠ (m56 V ix0 : EReal)
  varies : (loOf (res_main_v121 V) ix0 : EReal) < (hiOf (res_main_v121 V) ix0 : EReal)
    ∨ (loOf (res_main_v138 V) ix0 : EReal) < (hiOf (res_main_v138 V) ix0 : EReal)

theorem domain_of (hp : (Cert.Pre_in_domain.fn (F := Ideal) (V (Proc.devRef .tc main_arg0)) (V (Proc.devRef .tc main_arg1))
      (V (Proc.devRef .tc main_arg2)) (V (Proc.devRef .tc main_arg3))).1 = (fun _ => 1#1)
    ∧ (Cert.Pre_in_domain.fn (F := Ideal) (V (Proc.devRef .tc main_arg0)) (V (Proc.devRef .tc main_arg1))
      (V (Proc.devRef .tc main_arg2)) (V (Proc.devRef .tc main_arg3))).2.1 = (fun _ => 1#1)
    ∧ (Cert.Pre_in_domain.fn (F := Ideal) (V (Proc.devRef .tc main_arg0)) (V (Proc.devRef .tc main_arg1))
      (V (Proc.devRef .tc main_arg2)) (V (Proc.devRef .tc main_arg3))).2.2 = (fun _ => 1#1)) : Domain V where
  real := real_read (Q V) ((congrArg (fun a => a.1) (pre_eq V)).symm.trans hp.1)
  ne := ne_read (m50 V) (m56 V) ((congrArg (fun a => a.2.1) (pre_eq V)).symm.trans hp.2.1)
  varies := varies_read _ _ _ _ ((congrArg (fun a => a.2.2) (pre_eq V)).symm.trans hp.2.2)

end Cert.ReferenceIdeal.Val
end
-- ==== Proof.V.Eq.lean ====
module

public import proofs.«01_k».proof.Proof.V.Arr
public import proofs.«01_k».proof.Proof.V.Pre

@[expose] public section
set_option maxRecDepth 16384

/-! The kernel's three results are the reference's, on the same arguments, inside the precondition. -/

noncomputable section
namespace Cert.Meet
open Idealize.ShloMosaic Idealize.ShloMosaic.TcCoe Cert.Val
open Cert.KernelIdeal Cert.KernelIdeal.Gen Cert.KernelIdeal.Body Cert.KernelIdeal.Val
open Cert.ReferenceIdeal.Val (Q Fg Bg m50 m56 loOf hiOf weigh outV Domain Inputs flat pixEquiv)

/-- The least and the greatest of a real map are real and bound it. -/
theorem ends_real (x : FVec Ideal Cert.ReferenceIdeal.S8x1x128x128 .f32) (f : Fin 8 → Fin 128 → Fin 128 → ℝ)
    (hf : ∀ b h w, @Eq EReal (x (ix4 b 0 h w)) (f b h w : ℝ)) : ∃ l g : ℝ, @Eq EReal (loOf x ix0) (l : ℝ) ∧ @Eq EReal (hiOf x ix0) (g : ℝ)
      ∧ ∀ b h w, l ≤ f b h w ∧ f b h w ≤ g := by
  obtain ⟨p, hp⟩ := Finite.exists_min fun q : Fin 8 × Fin 128 × Fin 128 => f q.1 q.2.1 q.2.2
  obtain ⟨r, hr⟩ := Finite.exists_max fun q : Fin 8 × Fin 128 × Fin 128 => f q.1 q.2.1 q.2.2
  refine ⟨f p.1 p.2.1 p.2.2, f r.1 r.2.1 r.2.2, ?_, ?_, fun b h w => ⟨hp (b, h, w), hr (b, h, w)⟩⟩
  · refine le_antisymm ?_ ((Cert.ReferenceIdeal.Val.le_loOf x _).2 fun b h w => ?_)
    · rw [← hf]; exact (Cert.ReferenceIdeal.Val.le_loOf x _).1 le_rfl _ _ _
    · rw [hf]; exact_mod_cast hp (b, h, w)
  · refine le_antisymm ((Cert.ReferenceIdeal.Val.hiOf_le x _).2 fun b h w => ?_) ?_
    · rw [hf]; exact_mod_cast hr (b, h, w)
    · rw [← hf]; exact (Cert.ReferenceIdeal.Val.hiOf_le x _).1 le_rfl _ _ _

theorem outB_at (mm : Vec Ideal S8 .f32) (x : Vec Ideal S1x96x128x128 .f32) (a d : Vec Ideal S1x128x128 .f32) (k : Fin 96) (h w : Fin 128) :
    @Eq EReal (outB (F := Ideal) mm x a d (ix4 0 k h w))
      ((x (ix4 0 k h w) : EReal) * (Ideal.div ((a (ix3 0 h w) : EReal) - (mm (ix1 0) : EReal)) ((mm (ix1 1) : EReal) - (mm (ix1 0) : EReal))
        + (1 - Ideal.div ((d (ix3 0 h w) : EReal) - (mm (ix1 2) : EReal)) ((mm (ix1 3) : EReal) - (mm (ix1 2) : EReal))))) := by
  pointwise [outB, k1_pay1]

/-- The threshold's argument. -/
abbrev Th (V : Valuation Cert.ReferenceIdeal.τ Cert.ReferenceIdeal.sig (Elt Ideal)) : FVec Ideal S_ .f32 := V (Proc.devRef .tc Cert.ReferenceIdeal.main_arg3)

theorem v56_at (V : Valuation Cert.ReferenceIdeal.τ Cert.ReferenceIdeal.sig (Elt Ideal)) : @Eq EReal (m56 V ix0)
    (Ideal.div 1 (1 + Ideal.exp (-(Th V ix0 : EReal)))) := by
  pointwise [m56, Cert.ReferenceIdeal.Value.res_main_v56]

/-- A statement about the first eight numbers is one about the images. -/
theorem images (P : ℕ → Fin 128 → Fin 128 → Prop) : (∀ k ≤ 7, ∀ h w, P k h w) ↔ ∀ (b : Fin 8) (h w : Fin 128), P b h w :=
  ⟨fun H b h w => H b (by omega) h w, fun H k hk h w => H ⟨k, by omega⟩ h w⟩

section Image
variable (m : (ℓ : Loc nD τ sig) → Buf (Elt Ideal) ℓ) (c : Dev nD)
variable (V : Valuation Cert.ReferenceIdeal.τ Cert.ReferenceIdeal.sig (Elt Ideal))

/-- The two programs hold the same arguments. -/
structure Same : Prop where
  fg : Fg V = A0 m c
  bg : Bg V = A1 m c
  q : Q V = A2 m c
  th : Th V = A3 m c

/-- The real numbers of both programs: pixels, directions and threshold. -/
structure Reals (x : Fin 8 → Img) (u v : Fin 8 → Fin 96 → ℝ) (t : ℝ) : Prop where
  inp : Inputs V x u v t
  hx : ∀ b k h w, @Eq EReal (xA (W1 m) c (pnt (b : Fin 8)) (ix4 0 k h w)) (x b k h w : ℝ)
  hw : ∀ b k, @Eq EReal (wA (W1 m) c (pnt (b : Fin 8)) (ix4 0 k 0 0)) ((10 * (u b k - v b k) : ℝ) : EReal)
  ht : ∀ b : Fin 8, @Eq EReal (thW (thA (W1 m) c (pnt b))) (t : ℝ)
  hne : ∀ b p, conf (x b) (u b) (v b) p ≠ t

theorem reals (S : Same m c V) (D : Domain V) : ∃ x u v t, Reals m c V x u v t := by
  choose x hx using D.real
  choose u hu1 hu2 using fun b : Fin 8 => exists_dir fun k : Fin 96 => (A0 m c (ix4 b k 0 0) : EReal)
  choose v hv1 hv2 using fun b : Fin 8 => exists_dir fun k : Fin 96 => (A1 m c (ix4 b k 0 0) : EReal)
  obtain ⟨t, ht⟩ := exists_thr (A3 m c ix0 : EReal)
  have hth : @Eq EReal (m56 V ix0) (t : ℝ) := by
    rw [v56_at, S.th]; exact ht
  have I : Inputs V x u v t := by
    refine ⟨hx, fun b y q hq => ?_, fun b y q hq => ?_, hth⟩
    · rw [S.fg]; exact hu2 b y q hq
    · rw [S.bg]; exact hv2 b y q hq
  refine ⟨x, u, v, t, I, fun b k h w => ?_, fun b k => ?_, fun b => ?_, fun b p hp => ?_⟩
  · rw [x_blk, ← S.q]; exact hx b k h w
  · rw [w_blk, W29_at, ten_eq, hu1, hv1, ← EReal.coe_sub, ← EReal.coe_mul]
  · rw [th_blk, T7_at]; exact ht
  · refine D.ne b (pixEquiv.symm p) ?_
    have e := Cert.ReferenceIdeal.Val.v50_val I b (pixEquiv.symm p)
    have hf : flat (pixEquiv.symm p) = p := pixEquiv.apply_symm_apply p
    rw [hf, hp] at e
    exact e.trans hth.symm

variable {m c V} {x : Fin 8 → Img} {u v : Fin 8 → Fin 96 → ℝ} {t : ℝ} (R : Reals m c V x u v t)
include R

/-! ## The prototypes and the maps of an image -/

theorem fgX_at (b : Fin 8) (k : Fin 96) : @Eq EReal (fgX m c (pnt b) (ix4 0 k 0 0)) (fgr (x b) (u b) (v b) t k : ℝ) := by
  unfold fgX
  rw [R.ht b]
  exact fgB_at _ _ _ _ _ t (R.hx b) (R.hw b) k

theorem bgX_at (b : Fin 8) (k : Fin 96) : @Eq EReal (bgX m c (pnt b) (ix4 0 k 0 0)) (bgr (x b) (u b) (v b) t k : ℝ) := by
  unfold bgX
  rw [R.ht b]
  exact bgB_at _ _ _ _ _ t (R.hx b) (R.hw b) (R.hne b) k

theorem aX_at (b : Fin 8) (h w : Fin 128) : @Eq EReal (aX m c (pnt b) (ix3 0 h w)) (act (x b) (fgr (x b) (u b) (v b) t) h w : ℝ) := by
  unfold aX
  rw [R.ht b]
  exact aB_at _ _ _ _ _ t (R.hx b) (R.hw b) h w

theorem dX_at (b : Fin 8) (h w : Fin 128) : @Eq EReal (dX m c (pnt b) (ix3 0 h w)) (act (x b) (bgr (x b) (u b) (v b) t) h w : ℝ) := by
  unfold dX
  rw [R.ht b]
  exact dB_at _ _ _ _ _ t (R.hx b) (R.hw b) (R.hne b) h w

theorem aM_at (b : Fin 8) (h w : Fin 128) : @Eq EReal (aM (W1 m) c b (ix2 h w)) (act (x b) (fgr (x b) (u b) (v b) t) h w : ℝ) := by
  unfold aM
  rw [R.ht b]
  exact aP_at _ _ _ _ _ t (R.hx b) (R.hw b) h w

theorem dM_at (b : Fin 8) (h w : Fin 128) : @Eq EReal (dM (W1 m) c b (ix2 h w)) (act (x b) (bgr (x b) (u b) (v b) t) h w : ℝ) := by
  unfold dM
  rw [R.ht b]
  exact dP_at _ _ _ _ _ t (R.hx b) (R.hw b) (R.hne b) h w

/-! ## The four ends -/

theorem end0 : @Eq EReal (M31 m c (ix1 0)) (loOf (Cert.ReferenceIdeal.Value.res_main_v121 V) ix0) := by
  rw [M31_at]
  refine eq_of_forall_le_iff fun z => ?_
  rw [le_mm0, Cert.ReferenceIdeal.Val.le_loOf, images fun k h w => z ≤ (aM (W1 m) c k (ix2 h w) : EReal)]
  refine forall_congr' fun b => forall_congr' fun h => forall_congr' fun w => ?_
  rw [aM_at R, Cert.ReferenceIdeal.Val.v121_val R.inp]

theorem end1 : @Eq EReal (M31 m c (ix1 1)) (hiOf (Cert.ReferenceIdeal.Value.res_main_v121 V) ix0) := by
  rw [M31_at]
  refine eq_of_forall_ge_iff fun z => ?_
  rw [mm1_le, Cert.ReferenceIdeal.Val.hiOf_le, images fun k h w => (aM (W1 m) c k (ix2 h w) : EReal) ≤ z]
  refine forall_congr' fun b => forall_congr' fun h => forall_congr' fun w => ?_
  rw [aM_at R, Cert.ReferenceIdeal.Val.v121_val R.inp]

theorem end2 : @Eq EReal (M31 m c (ix1 2)) (loOf (Cert.ReferenceIdeal.Value.res_main_v138 V) ix0) := by
  rw [M31_at]
  refine eq_of_forall_le_iff fun z => ?_
  rw [le_mm2, Cert.ReferenceIdeal.Val.le_loOf, images fun k h w => z ≤ (dM (W1 m) c k (ix2 h w) : EReal)]
  refine forall_congr' fun b => forall_congr' fun h => forall_congr' fun w => ?_
  rw [dM_at R, Cert.ReferenceIdeal.Val.v138_val R.inp]

theorem end3 : @Eq EReal (M31 m c (ix1 3)) (hiOf (Cert.ReferenceIdeal.Value.res_main_v138 V) ix0) := by
  rw [M31_at]
  refine eq_of_forall_ge_iff fun z => ?_
  rw [mm3_le, Cert.ReferenceIdeal.Val.hiOf_le, images fun k h w => (dM (W1 m) c k (ix2 h w) : EReal) ≤ z]
  refine forall_congr' fun b => forall_congr' fun h => forall_congr' fun w => ?_
  rw [dM_at R, Cert.ReferenceIdeal.Val.v138_val R.inp]

/-! ## The weighted query -/

theorem out_at (D : Domain V) (b : Fin 8) (k : Fin 96) (h w : Fin 128) :
    @Eq EReal (oX m c (qnt b) (ix4 0 k h w)) (outV V (ix4 b k h w)) := by
  obtain ⟨l, g, hl, hg, hlg⟩ := ends_real _ (fun b h w => act (x b) (fgr (x b) (u b) (v b) t) h w) (Cert.ReferenceIdeal.Val.v121_val R.inp)
  obtain ⟨l', g', hl', hg', hlg'⟩ := ends_real _ (fun b h w => act (x b) (bgr (x b) (u b) (v b) t) h w) (Cert.ReferenceIdeal.Val.v138_val R.inp)
  have hv := D.varies
  rw [hl, hg, hl', hg'] at hv
  have hq : @Eq EReal (A2 m c (ix4 b k h w)) (x b k h w : ℝ) := by rw [← x_blk]; exact R.hx b k h w
  unfold outV
  rw [Cert.ReferenceIdeal.Val.weigh_at, oX, outB_at, x_blk1, a_blk1, d_blk1, mm_blk1, mm_blk1, mm_blk1, mm_blk1,
    end0 R, end1 R, end2 R, end3 R, aX_at R, dX_at R, hq, R.inp.q, Cert.ReferenceIdeal.Val.v121_val R.inp,
    Cert.ReferenceIdeal.Val.v138_val R.inp, hl, hg, hl', hg']
  refine last_step _ _ _ _ _ _ _ ?_ (fun e => ?_) (fun e => ?_)
  · exact hv.imp (fun h => (EReal.coe_lt_coe_iff.1 h).ne) fun h => (EReal.coe_lt_coe_iff.1 h).ne
  · exact le_antisymm (e ▸ (hlg b h w).2) (hlg b h w).1
  · exact le_antisymm (e ▸ (hlg' b h w).2) (hlg' b h w).1

end Image

/-! ## The three results -/

variable (m : (ℓ : Loc nD τ sig) → Buf (Elt Ideal) ℓ) (c : Dev nD)
variable (V : Valuation Cert.ReferenceIdeal.τ Cert.ReferenceIdeal.sig (Elt Ideal))

theorem column (i : S8x96x1x1.Idx) : i = ix4 (i 0) (i 1) 0 0 := by
  funext a; fin_cases a
  · rfl
  · rfl
  · exact Subsingleton.elim (α := Fin 1) _ _
  · exact Subsingleton.elim (α := Fin 1) _ _

theorem meet_fg (S : Same m c V) (D : Domain V) : W4 m c main_v30_3 = Cert.ReferenceIdeal.Value.res_main_v81 V := by
  obtain ⟨x, u, v, t, R⟩ := reals m c V S D
  rw [W4_fg]
  funext i
  refine (fgX_at R (i 0) (i 1)).trans ?_
  refine (Cert.ReferenceIdeal.Val.v81_val R.inp (i 0) (i 1)).symm.trans ?_
  exact congrArg (Cert.ReferenceIdeal.Value.res_main_v81 V) (column i).symm

theorem meet_bg (S : Same m c V) (D : Domain V) : W4 m c main_v30_4 = Cert.ReferenceIdeal.Value.res_main_v104 V := by
  obtain ⟨x, u, v, t, R⟩ := reals m c V S D
  rw [W4_bg]
  funext i
  refine (bgX_at R (i 0) (i 1)).trans ?_
  refine (Cert.ReferenceIdeal.Val.v104_val R.inp (i 0) (i 1)).symm.trans ?_
  exact congrArg (Cert.ReferenceIdeal.Value.res_main_v104 V) (column i).symm

theorem meet_out (S : Same m c V) (D : Domain V) : W4 m c main_v32 = outV V := by
  obtain ⟨x, u, v, t, R⟩ := reals m c V S D
  rw [o_arr]
  funext i
  refine (out_at R D (i 0) (i 1) (i 2) (i 3)).trans ?_
  exact congrArg (outV V) (funext fun a => by fin_cases a <;> rfl)

end Cert.Meet
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Frame
public import proofs.«01_k».proof.Proof.I.Frame
public import proofs.«01_k».proof.Proof.V.Eq
public import Idealize.ShloMosaic.Adequacy
public import Idealize.ShloMosaic.Init

@[expose] public section

noncomputable section

namespace Cert.Proof

open Idealize.ShloMosaic Idealize.ShloMosaic.StableHlo Idealize.SL.Sem

theorem kernel_frame : quiescent_Kernel := fun m g _ =>
  (θ_run _ _ _).mono (fun _ h => ⟨fun c => (h.1 c).2.2.2, h.2⟩) (Cert.Kernel.Body.run_at m g)

theorem ideal_frame : quiescent_KernelIdeal := fun m g _ =>
  (θ_run _ _ _).mono (fun _ h => ⟨fun c => (h.1 c).2.2.2, h.2⟩) (Cert.KernelIdeal.Body.run_at m g)

theorem reference_frame : quiescent_ReferenceIdeal := fun m g _ =>
  (θ_run _ _ _).mono (fun r h => ⟨fun c => (h c).2.2.2, sem_eq_zero_of_no_sems (by decide) r.2⟩) (Cert.ReferenceIdeal.Value.run m g)

/-- On equal arguments inside the precondition, both programs end with the reference's arrays. -/
theorem same_results : algebraic_KernelIdeal_ReferenceIdeal_pre_in_domain (hPre_in_domain := Cert.ReferenceIdeal.Val.preFacts) := by
  intro m g m' g' hpre harg
  have S : ∀ c, Cert.Meet.Same m c (launchContents m' c) := fun c =>
    ⟨(harg c).1, (harg c).2.1, (harg c).2.2.1, (harg c).2.2.2⟩
  have D : ∀ c, Cert.ReferenceIdeal.Val.Domain (launchContents m' c) := by
    intro c
    refine Cert.ReferenceIdeal.Val.domain_of _ ?_
    have h := hpre c
    rw [← (harg c).1, ← (harg c).2.1, ← (harg c).2.2.1, ← (harg c).2.2.2] at h
    exact h
  refine ⟨fun c => Cert.ReferenceIdeal.Val.outV (launchContents m' c), fun c => Cert.ReferenceIdeal.Value.res_main_v81 (launchContents m' c),
    fun c => Cert.ReferenceIdeal.Value.res_main_v104 (launchContents m' c), ?_, ?_⟩
  · refine (θ_run _ _ _).mono (fun _ h c => ?_) (Cert.KernelIdeal.Body.run_at m g)
    have k := h.1 c
    exact ⟨k.1.trans (Cert.Meet.meet_out m c _ (S c) (D c)), k.2.1.trans (Cert.Meet.meet_fg m c _ (S c) (D c)),
      k.2.2.1.trans (Cert.Meet.meet_bg m c _ (S c) (D c)), k.2.2.2⟩
  · exact Cert.ReferenceIdeal.Value.run m' g'

theorem claim : Cert.Claim :=
  ⟨Cert.Kernel.Gen.facts, Cert.KernelIdeal.Gen.facts, Cert.ReferenceIdeal.Gen.facts, Cert.ReferenceIdeal.Val.preFacts,
    kernel_frame, ideal_frame, fun m g _ => ideal_frame m g trivial, reference_frame, fun m g _ => reference_frame m g trivial,
    trivial, same_results⟩

end Cert.Proof

end
